-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_agents_in_range [hPre_agents_in_range : Cert.Pre_agents_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_agents_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_agents_in_range [hPre_agents_in_range : Cert.Pre_agents_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_agents_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_agents_in_range [hKernelIdeal : Cert.KernelIdeal.Facts] [hPre_agents_in_range : Cert.Pre_agents_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_agents_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_agents_in_range [hReferenceIdeal : Cert.ReferenceIdeal.Facts] [hPre_agents_in_range : Cert.Pre_agents_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_agents_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_agents_in_range [hKernelIdeal : Cert.KernelIdeal.Facts] [hReferenceIdeal : Cert.ReferenceIdeal.Facts] [hPre_agents_in_range : Cert.Pre_agents_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_agents_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_agents_in_range : Cert.Pre_agents_in_range.Facts),
    quiescent_Kernel (hKernel := hKernel)
    ∧ quiescent_KernelIdeal (hKernelIdeal := hKernelIdeal)
    ∧ quiescent_KernelIdeal_pre_agents_in_range (hKernelIdeal := hKernelIdeal) (hPre_agents_in_range := hPre_agents_in_range)
    ∧ quiescent_ReferenceIdeal (hReferenceIdeal := hReferenceIdeal)
    ∧ quiescent_ReferenceIdeal_pre_agents_in_range (hReferenceIdeal := hReferenceIdeal) (hPre_agents_in_range := hPre_agents_in_range)
    ∧ preserves_Kernel_KernelIdeal
    ∧ algebraic_KernelIdeal_ReferenceIdeal_pre_agents_in_range (hKernelIdeal := hKernelIdeal) (hReferenceIdeal := hReferenceIdeal) (hPre_agents_in_range := hPre_agents_in_range)
-- ==== Pre_agents_in_range.lean ====
abbrev S16x128x512 : Shape := ⟨3, ![16, 128, 512]⟩
abbrev S16x128x128 : Shape := ⟨3, ![16, 128, 128]⟩
abbrev S16x1 : Shape := ⟨2, ![16, 1]⟩
abbrev S512x128 : Shape := ⟨2, ![512, 128]⟩
abbrev S128 : Shape := ⟨1, ![128]⟩
abbrev S128x256 : Shape := ⟨2, ![128, 256]⟩
abbrev S256 : Shape := ⟨1, ![256]⟩
abbrev S2x128 : Shape := ⟨2, ![2, 128]⟩
abbrev S256x6 : Shape := ⟨2, ![256, 6]⟩
abbrev S6 : Shape := ⟨1, ![6]⟩
abbrev S256x1 : Shape := ⟨2, ![256, 1]⟩
abbrev S1 : Shape := ⟨1, ![1]⟩
abbrev S_ : Shape := ⟨0, ![]⟩

class Facts : Prop where
  bcast_S_S16x1 : S_.BroadcastsInDim S16x1 (![] : Fin 0 → Fin S16x1.rank)
  reducesTo_S16x1_S_d0_1 : S16x1.ReducesTo [0, 1] S_
  h_S_ : 0 < S_.numel

variable [Facts]

def fn {F : FTy → Type} [FloatOps F] (main_arg0 : FVec F S16x128x512 .f32) (main_arg1 : IVec S16x128x128 32) (main_arg2 : IVec S16x1 32) (main_arg3 : FVec F S512x128 .f32) (main_arg4 : FVec F S128 .f32) (main_arg5 : FVec F S128x256 .f32) (main_arg6 : FVec F S256 .f32) (main_arg7 : FVec F S128x256 .f32) (main_arg8 : FVec F S256 .f32) (main_arg9 : FVec F S2x128 .f32) (main_arg10 : FVec F S128 .f32) (main_arg11 : FVec F S256x6 .f32) (main_arg12 : FVec F S6 .f32) (main_arg13 : FVec F S256x1 .f32) (main_arg14 : FVec F S1 .f32) : IVec S_ 1 :=
  let main_c : IVec S_ 32 := constantI S_ 32 0#32
  let main_v0 : IVec S16x1 32 := broadcastInDim S16x1 ![] bcast_S_S16x1 main_c
  let main_v1 : IVec S16x1 1 := cmpi .sge main_arg2 main_v0
  let main_c_0 : IVec S_ 32 := constantI S_ 32 128#32
  let main_v2 : IVec S16x1 32 := broadcastInDim S16x1 ![] bcast_S_S16x1 main_c_0
  let main_v3 : IVec S16x1 1 := cmpi .slt main_arg2 main_v2
  let main_v4 : IVec S16x1 1 := andi main_v1 main_v3
  let main_c_1 : IVec S_ 1 := constantI S_ 1 1#1
  let main_v5 : IVec S_ 1 := (fun x v => Host.reduce IntOp.andi x v reducesTo_S16x1_S_d0_1 h_S_) main_v4 main_c_1
  main_v5
-- ==== Kernel.lean ====
abbrev S16x128x512 : Shape := ⟨3, ![16, 128, 512]⟩
abbrev S16x128x128 : Shape := ⟨3, ![16, 128, 128]⟩
abbrev S16x1 : Shape := ⟨2, ![16, 1]⟩
abbrev S512x128 : Shape := ⟨2, ![512, 128]⟩
abbrev S128 : Shape := ⟨1, ![128]⟩
abbrev S128x256 : Shape := ⟨2, ![128, 256]⟩
abbrev S256 : Shape := ⟨1, ![256]⟩
abbrev S2x128 : Shape := ⟨2, ![2, 128]⟩
abbrev S256x6 : Shape := ⟨2, ![256, 6]⟩
abbrev S6 : Shape := ⟨1, ![6]⟩
abbrev S256x1 : Shape := ⟨2, ![256, 1]⟩
abbrev S1 : Shape := ⟨1, ![1]⟩
abbrev S2048x512 : Shape := ⟨2, ![2048, 512]⟩
abbrev S2048x128 : Shape := ⟨2, ![2048, 128]⟩
abbrev S2x128x1 : Shape := ⟨3, ![2, 128, 1]⟩
abbrev S2x2 : Shape := ⟨2, ![2, 2]⟩
abbrev S_ : Shape := ⟨0, ![]⟩
abbrev S2x1x2 : Shape := ⟨3, ![2, 1, 2]⟩
abbrev S2x128x2 : Shape := ⟨3, ![2, 128, 2]⟩
abbrev S256x2 : Shape := ⟨2, ![256, 2]⟩
abbrev S1x128 : Shape := ⟨2, ![1, 128]⟩
abbrev S1x256 : Shape := ⟨2, ![1, 256]⟩
abbrev S1x6 : Shape := ⟨2, ![1, 6]⟩
abbrev S1x1 : Shape := ⟨2, ![1, 1]⟩
abbrev S16x1x6 : Shape := ⟨3, ![16, 1, 6]⟩
abbrev S16x1x1 : Shape := ⟨3, ![16, 1, 1]⟩
abbrev S1024x512 : Shape := ⟨2, ![1024, 512]⟩
abbrev S1024x128 : Shape := ⟨2, ![1024, 128]⟩
abbrev S8x1x6 : Shape := ⟨3, ![8, 1, 6]⟩
abbrev S8x1x1 : Shape := ⟨3, ![8, 1, 1]⟩
abbrev S1024x256 : Shape := ⟨2, ![1024, 256]⟩
abbrev S128x1 : Shape := ⟨2, ![128, 1]⟩
abbrev S1024x1 : Shape := ⟨2, ![1024, 1]⟩
abbrev S128x8 : Shape := ⟨2, ![128, 8]⟩
abbrev S1024x8 : Shape := ⟨2, ![1024, 8]⟩
abbrev S8x1024 : Shape := ⟨2, ![8, 1024]⟩
abbrev S1024 : Shape := ⟨1, ![1024]⟩
abbrev S8x128 : Shape := ⟨2, ![8, 128]⟩
abbrev S8x256 : Shape := ⟨2, ![8, 256]⟩
abbrev S1024x2 : Shape := ⟨2, ![1024, 2]⟩
abbrev S128x1024 : Shape := ⟨2, ![128, 1024]⟩
abbrev S8 : Shape := ⟨1, ![8]⟩
abbrev S1x8 : Shape := ⟨2, ![1, 8]⟩
abbrev S8x6 : Shape := ⟨2, ![8, 6]⟩
abbrev S8x1 : Shape := ⟨2, ![8, 1]⟩
abbrev S16x6 : Shape := ⟨2, ![16, 6]⟩

abbrev nBuf : Space → Nat
  | .hbm => 40
  | .vmem => 20
  | .smem => 1
  | _ => 0

abbrev bufTy : (tb : Table) → Fin (tcTables nBuf tb) → BufTy
  | .hbm, ⟨0, _⟩ => ⟨S16x128x512, .f32⟩
  | .hbm, ⟨1, _⟩ => ⟨S16x128x128, .i32⟩
  | .hbm, ⟨2, _⟩ => ⟨S16x1, .i32⟩
  | .hbm, ⟨3, _⟩ => ⟨S512x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S2x128, .f32⟩
  | .hbm, ⟨10, _⟩ => ⟨S128, .f32⟩
  | .hbm, ⟨11, _⟩ => ⟨S256x6, .f32⟩
  | .hbm, ⟨12, _⟩ => ⟨S6, .f32⟩
  | .hbm, ⟨13, _⟩ => ⟨S256x1, .f32⟩
  | .hbm, ⟨14, _⟩ => ⟨S1, .f32⟩
  | .hbm, ⟨15, _⟩ => ⟨S2048x512, .f32⟩
  | .hbm, ⟨16, _⟩ => ⟨S2048x128, .i32⟩
  | .hbm, ⟨17, _⟩ => ⟨S2x128x1, .f32⟩
  | .hbm, ⟨18, _⟩ => ⟨S2x2, .i32⟩
  | .hbm, ⟨19, _⟩ => ⟨S2x2, .i32⟩
  | .hbm, ⟨20, _⟩ => ⟨S_, .i32⟩
  | .hbm, ⟨21, _⟩ => ⟨S2x2, .i32⟩
  | .hbm, ⟨22, _⟩ => ⟨S2x2, .i32⟩
  | .hbm, ⟨23, _⟩ => ⟨S2x2, .i1⟩
  | .hbm, ⟨24, _⟩ => ⟨S2x2, .f32⟩
  | .hbm, ⟨25, _⟩ => ⟨S2x1x2, .f32⟩
  | .hbm, ⟨26, _⟩ => ⟨S2x128x2, .f32⟩
  | .hbm, ⟨27, _⟩ => ⟨S2x128x2, .f32⟩
  | .hbm, ⟨28, _⟩ => ⟨S2x128x2, .f32⟩
  | .hbm, ⟨29, _⟩ => ⟨S256x2, .f32⟩
  | .hbm, ⟨30, _⟩ => ⟨S1x128, .f32⟩
  | .hbm, ⟨31, _⟩ => ⟨S1x256, .f32⟩
  | .hbm, ⟨32, _⟩ => ⟨S1x256, .f32⟩
  | .hbm, ⟨33, _⟩ => ⟨S1x128, .f32⟩
  | .hbm, ⟨34, _⟩ => ⟨S1x6, .f32⟩
  | .hbm, ⟨35, _⟩ => ⟨S1x1, .f32⟩
  | .hbm, ⟨36, _⟩ => ⟨S16x1x6, .f32⟩
  | .hbm, ⟨37, _⟩ => ⟨S16x1x1, .f32⟩
  | .hbm, ⟨38, _⟩ => ⟨S16x6, .f32⟩
  | .hbm, ⟨39, _⟩ => ⟨S16x1, .f32⟩
  | .local _ .vmem, ⟨0, _⟩ => ⟨S1024x512, .f32⟩
  | .local _ .vmem, ⟨1, _⟩ => ⟨S1024x512, .f32⟩
  | .local _ .vmem, ⟨2, _⟩ => ⟨S1024x128, .i32⟩
  | .local _ .vmem, ⟨3, _⟩ => ⟨S1024x128, .i32⟩
  | .local _ .vmem, ⟨4, _⟩ => ⟨S512x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S1x256, .f32⟩
  | .local _ .vmem, ⟨10, _⟩ => ⟨S256x2, .f32⟩
  | .local _ .vmem, ⟨11, _⟩ => ⟨S1x128, .f32⟩
  | .local _ .vmem, ⟨12, _⟩ => ⟨S256x6, .f32⟩
  | .local _ .vmem, ⟨13, _⟩ => ⟨S1x6, .f32⟩
  | .local _ .vmem, ⟨14, _⟩ => ⟨S256x1, .f32⟩
  | .local _ .vmem, ⟨15, _⟩ => ⟨S1x1, .f32⟩
  | .local _ .vmem, ⟨16, _⟩ => ⟨S8x1x6, .f32⟩
  | .local _ .vmem, ⟨17, _⟩ => ⟨S8x1x6, .f32⟩
  | .local _ .vmem, ⟨18, _⟩ => ⟨S8x1x1, .f32⟩
  | .local _ .vmem, ⟨19, _⟩ => ⟨S8x1x1, .f32⟩
  | .local _ .smem, ⟨0, _⟩ => ⟨S16x1, .i32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v21 : Ref sig .tc := ⟨.hbm, 38, rfl⟩
abbrev main_v22 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c8_i32 : BitVec 32 := 8#32
  let v16 : BitVec 32 := Scalar.muli arg0 c8_i32
  let v17 : BitVec 32 := Scalar.addi v16 c0_i32
  let v18 : Index := Scalar.indexCast v17
  let c0_11 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x1x6 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16x128x512 : Shape := ⟨3, ![16, 128, 512]⟩
abbrev S16x128x128 : Shape := ⟨3, ![16, 128, 128]⟩
abbrev S16x1 : Shape := ⟨2, ![16, 1]⟩
abbrev S512x128 : Shape := ⟨2, ![512, 128]⟩
abbrev S128 : Shape := ⟨1, ![128]⟩
abbrev S128x256 : Shape := ⟨2, ![128, 256]⟩
abbrev S256 : Shape := ⟨1, ![256]⟩
abbrev S2x128 : Shape := ⟨2, ![2, 128]⟩
abbrev S256x6 : Shape := ⟨2, ![256, 6]⟩
abbrev S6 : Shape := ⟨1, ![6]⟩
abbrev S256x1 : Shape := ⟨2, ![256, 1]⟩
abbrev S1 : Shape := ⟨1, ![1]⟩
abbrev S1x1x128 : Shape := ⟨3, ![1, 1, 128]⟩
abbrev S_ : Shape := ⟨0, ![]⟩
abbrev S16x128x256 : Shape := ⟨3, ![16, 128, 256]⟩
abbrev S1x1x256 : Shape := ⟨3, ![1, 1, 256]⟩
abbrev S16x128x2x128 : Shape := ⟨4, ![16, 128, 2, 128]⟩
abbrev S16x128x1x2x128 : Shape := ⟨5, ![16, 128, 1, 2, 128]⟩
abbrev S16x1x128x2x128 : Shape := ⟨5, ![16, 1, 128, 2, 128]⟩
abbrev S16x128x128x2x128 : Shape := ⟨5, ![16, 128, 128, 2, 128]⟩
abbrev S2x16x128x128 : Shape := ⟨4, ![2, 16, 128, 128]⟩
abbrev S16x2x128x128 : Shape := ⟨4, ![16, 2, 128, 128]⟩
abbrev S128x128 : Shape := ⟨2, ![128, 128]⟩
abbrev S1x128x128 : Shape := ⟨3, ![1, 128, 128]⟩
abbrev S16x1x128x128 : Shape := ⟨4, ![16, 1, 128, 128]⟩
abbrev S16x2x128 : Shape := ⟨3, ![16, 2, 128]⟩
abbrev S16x2x128x1 : Shape := ⟨4, ![16, 2, 128, 1]⟩
abbrev S16x1x1 : Shape := ⟨3, ![16, 1, 1]⟩
abbrev S16x1x128 : Shape := ⟨3, ![16, 1, 128]⟩
abbrev S16x128 : Shape := ⟨2, ![16, 128]⟩
abbrev S16x256 : Shape := ⟨2, ![16, 256]⟩
abbrev S16x6 : Shape := ⟨2, ![16, 6]⟩
abbrev S1x6 : Shape := ⟨2, ![1, 6]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S16x128x128, .i32⟩
  | .hbm, ⟨2, _⟩ => ⟨S16x1, .i32⟩
  | .hbm, ⟨3, _⟩ => ⟨S512x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S2x128, .f32⟩
  | .hbm, ⟨10, _⟩ => ⟨S128, .f32⟩
  | .hbm, ⟨11, _⟩ => ⟨S256x6, .f32⟩
  | .hbm, ⟨12, _⟩ => ⟨S6, .f32⟩
  | .hbm, ⟨13, _⟩ => ⟨S256x1, .f32⟩
  | .hbm, ⟨14, _⟩ => ⟨S1, .f32⟩
  | .hbm, ⟨15, _⟩ => ⟨S16x128x128, .f32⟩
  | .hbm, ⟨16, _⟩ => ⟨S1x1x128, .f32⟩
  | .hbm, ⟨17, _⟩ => ⟨S16x128x128, .f32⟩
  | .hbm, ⟨18, _⟩ => ⟨S16x128x128, .f32⟩
  | .hbm, ⟨19, _⟩ => ⟨S_, .f32⟩
  | .hbm, ⟨20, _⟩ => ⟨S16x128x128, .f32⟩
  | .hbm, ⟨21, _⟩ => ⟨S16x128x128, .f32⟩
  | .hbm, ⟨22, _⟩ => ⟨S16x128x256, .f32⟩
  | .hbm, ⟨23, _⟩ => ⟨S1x1x256, .f32⟩
  | .hbm, ⟨24, _⟩ => ⟨S16x128x256, .f32⟩
  | .hbm, ⟨25, _⟩ => ⟨S16x128x256, .f32⟩
  | .hbm, ⟨26, _⟩ => ⟨S16x128x2x128, .f32⟩
  | .hbm, ⟨27, _⟩ => ⟨S16x128x256, .f32⟩
  | .hbm, ⟨28, _⟩ => ⟨S1x1x256, .f32⟩
  | .hbm, ⟨29, _⟩ => ⟨S16x128x256, .f32⟩
  | .hbm, ⟨30, _⟩ => ⟨S16x128x256, .f32⟩
  | .hbm, ⟨31, _⟩ => ⟨S16x128x2x128, .f32⟩
  | .hbm, ⟨32, _⟩ => ⟨S16x128x1x2x128, .f32⟩
  | .hbm, ⟨33, _⟩ => ⟨S16x1x128x2x128, .f32⟩
  | .hbm, ⟨34, _⟩ => ⟨S16x128x128x2x128, .f32⟩
  | .hbm, ⟨35, _⟩ => ⟨S16x128x128x2x128, .f32⟩
  | .hbm, ⟨36, _⟩ => ⟨S16x128x128x2x128, .f32⟩
  | .hbm, ⟨37, _⟩ => ⟨S_, .f32⟩
  | .hbm, ⟨38, _⟩ => ⟨S_, .f32⟩
  | .hbm, ⟨39, _⟩ => ⟨S16x128x128x2x128, .f32⟩
  | .hbm, ⟨40, _⟩ => ⟨S16x128x128x2x128, .i1⟩
  | .hbm, ⟨41, _⟩ => ⟨S_, .f32⟩
  | .hbm, ⟨42, _⟩ => ⟨S16x128x128x2x128, .f32⟩
  | .hbm, ⟨43, _⟩ => ⟨S16x128x128x2x128, .f32⟩
  | .hbm, ⟨44, _⟩ => ⟨S16x128x128x2x128, .f32⟩
  | .hbm, ⟨45, _⟩ => ⟨S2x16x128x128, .f32⟩
  | .hbm, ⟨46, _⟩ => ⟨S16x2x128x128, .f32⟩
  | .hbm, ⟨47, _⟩ => ⟨S16x128x128, .i32⟩
  | .hbm, ⟨48, _⟩ => ⟨S_, .i32⟩
  | .hbm, ⟨49, _⟩ => ⟨S16x128x128, .i32⟩
  | .hbm, ⟨50, _⟩ => ⟨S16x128x128, .i1⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S1x128x128, .i1⟩
  | .hbm, ⟨58, _⟩ => ⟨S16x128x128, .i1⟩
  | .hbm, ⟨59, _⟩ => ⟨S16x128x128, .i1⟩
  | .hbm, ⟨60, _⟩ => ⟨S16x1x128x128, .i1⟩
  | .hbm, ⟨61, _⟩ => ⟨S_, .f32⟩
  | .hbm, ⟨62, _⟩ => ⟨S16x2x128x128, .i1⟩
  | .hbm, ⟨63, _⟩ => ⟨S16x2x128x128, .f32⟩
  | .hbm, ⟨64, _⟩ => ⟨S16x2x128x128, .f32⟩
  | .hbm, ⟨65, _⟩ => ⟨S_, .f32⟩
  | .hbm, ⟨66, _⟩ => ⟨S16x2x128, .f32⟩
  | .hbm, ⟨67, _⟩ => ⟨S_, .f32⟩
  | .hbm, ⟨68, _⟩ => ⟨S16x2x128, .f32⟩
  | .hbm, ⟨69, _⟩ => ⟨S16x2x128, .f32⟩
  | .hbm, ⟨70, _⟩ => ⟨S16x2x128x1, .f32⟩
  | .hbm, ⟨71, _⟩ => ⟨S16x2x128x128, .f32⟩
  | .hbm, ⟨72, _⟩ => ⟨S16x2x128x128, .f32⟩
  | .hbm, ⟨73, _⟩ => ⟨S16x2x128x128, .f32⟩
  | .hbm, ⟨74, _⟩ => ⟨S_, .f32⟩
  | .hbm, ⟨75, _⟩ => ⟨S16x2x128, .f32⟩
  | .hbm, ⟨76, _⟩ => ⟨S16x2x128x1, .f32⟩
  | .hbm, ⟨77, _⟩ => ⟨S16x2x128x128, .f32⟩
  | .hbm, ⟨78, _⟩ => ⟨S16x2x128x128, .f32⟩
  | .hbm, ⟨79, _⟩ => ⟨S16x2x128x128, .f32⟩
  | .hbm, ⟨80, _⟩ => ⟨S16x128x2x128, .f32⟩
  | .hbm, ⟨81, _⟩ => ⟨S_, .f32⟩
  | .hbm, ⟨82, _⟩ => ⟨S16x128x128, .f32⟩
  | .hbm, ⟨83, _⟩ => ⟨S_, .f32⟩
  | .hbm, ⟨84, _⟩ => ⟨S16x128x128, .f32⟩
  | .hbm, ⟨85, _⟩ => ⟨S16x128x128, .f32⟩
  | .hbm, ⟨86, _⟩ => ⟨S1x1x128, .f32⟩
  | .hbm, ⟨87, _⟩ => ⟨S16x128x128, .f32⟩
  | .hbm, ⟨88, _⟩ => ⟨S16x128x128, .f32⟩
  | .hbm, ⟨89, _⟩ => ⟨S16x1x1, .i32⟩
  | .hbm, ⟨90, _⟩ => ⟨S1x1x128, .i32⟩
  | .hbm, ⟨91, _⟩ => ⟨S16x1x128, .i32⟩
  | .hbm, ⟨92, _⟩ => ⟨S16x1x128, .i32⟩
  | .hbm, ⟨93, _⟩ => ⟨S16x1x128, .i1⟩
  | .hbm, ⟨94, _⟩ => ⟨S16x1x128, .f32⟩
  | .hbm, ⟨95, _⟩ => ⟨S16x1x128, .f32⟩
  | .hbm, ⟨96, _⟩ => ⟨S16x128, .f32⟩
  | .hbm, ⟨97, _⟩ => ⟨S16x1x128, .f32⟩
  | .hbm, ⟨98, _⟩ => ⟨S16x128, .f32⟩
  | .hbm, ⟨99, _⟩ => ⟨S16x256, .f32⟩
  | .hbm, ⟨100, _⟩ => ⟨S16x6, .f32⟩
  | .hbm, ⟨101, _⟩ => ⟨S1x6, .f32⟩
  | .hbm, ⟨102, _⟩ => ⟨S16x6, .f32⟩
  | .hbm, ⟨103, _⟩ => ⟨S16x6, .f32⟩
  | .hbm, ⟨104, _⟩ => ⟨S16x1, .f32⟩
  | .hbm, ⟨105, _⟩ => ⟨S1x1, .f32⟩
  | .hbm, ⟨106, _⟩ => ⟨S16x1, .f32⟩
  | .hbm, ⟨107, _⟩ => ⟨S16x1, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_v35 : Ref sig .tc := ⟨.hbm, 64, rfl⟩
abbrev main_cst_2 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_5 : Ref sig .tc := ⟨.hbm, 81, rfl⟩
abbrev main_v49 : Ref sig .tc := ⟨.hbm, 82, rfl⟩
abbrev main_cst_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]
-- ==== Proof.OneHot.lean ====
/- Rows of a block, and sums against one-hot rows. A block stacks eight samples of 128 agents, so row `128 * i + n` is
   agent `n` of the block's sample `i`. A sum over the rows is a sum over samples and agents, and a one-hot factor picks one
   term out of a sum: over the extended reals zero times anything is zero, so no bound on the values is needed. -/
module

public import Idealize.ShloMosaic.Lib.Pointwise

@[expose] public section

noncomputable section

namespace Cert.Proof

open Idealize.ShloMosaic

/-- The row of agent `n` of sample `i`. -/
abbrev row (i : Fin 8) (n : Fin 128) : Fin 1024 := ⟨128 * i.val + n.val, by omega⟩

/-- The indicator of a proposition as an extended real. -/
def ind (p : Prop) [Decidable p] : EReal := if p then 1 else 0

/-- Multiplying an indicator by a value keeps the value or gives zero. -/
theorem ind_mul (p : Prop) [Decidable p] (x : EReal) : ind p * x = if p then x else 0 := by
  unfold ind; split <;> simp

/-- Multiplying a value by an indicator keeps the value or gives zero. -/
theorem mul_ind (p : Prop) [Decidable p] (x : EReal) : x * ind p = if p then x else 0 := by
  unfold ind; split <;> simp

/-- Every row is the row of its sample and agent. -/
theorem exists_row (r : Fin 1024) : ∃ i n, r = row i n :=
  ⟨⟨r.val / 128, by omega⟩, ⟨r.val % 128, by omega⟩, Fin.ext (by show r.val = 128 * (r.val / 128) + r.val % 128; omega)⟩

/-- A sum over the rows, sample by sample and agent by agent. -/
theorem sum_rows (F : Fin 1024 → EReal) : ∑ r, F r = ∑ i : Fin 8, ∑ n : Fin 128, F (row i n) := by
  rw [← Finset.sum_product', ← Equiv.sum_comp (finProdFinEquiv (m := 8) (n := 128))]
  refine Finset.sum_congr rfl fun p _ => congrArg F (Fin.ext ?_)
  show p.2.val + 128 * p.1.val = 128 * p.1.val + p.2.val
  omega

/-- Weighting the rows with the indicator of one sample leaves the sum over that sample's agents. -/
theorem sum_rows_ind (j : Fin 8) (F : Fin 1024 → EReal) (G : Fin 8 → Fin 128 → EReal)
    (h : ∀ i n, F (row i n) = if i = j then G i n else 0) : ∑ r, F r = ∑ n, G j n := by
  rw [sum_rows, Finset.sum_eq_single j]
  · exact Finset.sum_congr rfl fun n _ => by rw [h, if_pos rfl]
  · exact fun i _ hi => Finset.sum_eq_zero fun n _ => by rw [h, if_neg hi]
  · exact fun hj => absurd (Finset.mem_univ j) hj

/-- A sum over the joined axis of both heads in which one head's columns alone are not zero. -/
theorem sum_cols (F : Fin 256 → EReal) : ∑ k, F k = ∑ d : Fin 128, F ⟨d.val, by omega⟩ + ∑ d : Fin 128, F ⟨128 + d.val, by omega⟩ :=
  Fin.sum_univ_two_halves 128 128 rfl F

end Cert.Proof

end
-- ==== Proof.Words.lean ====
/- The integer side of a block: which sample and which agent a row belongs to, as the kernel computes it on words, and the
   0/1 matrices it builds from comparisons of such words. -/
module

public import proofs.«01_k».proof.Proof.Gen.KernelIdeal.Skeleton
public import proofs.«01_k».proof.Proof.OneHot

@[expose] public section

set_option maxRecDepth 16384

noncomputable section

namespace Cert.Proof

open Idealize.ShloMosaic Idealize.SL.Sem Cert.KernelIdeal Cert.KernelIdeal.Gen

/-- A comparison for equality, widened and converted, is the indicator of the equality. -/
theorem sitofp_cmpi_eq (x y : BitVec 32) :
    (FloatOps.sitofp .f32 (BitVec.setWidth 32 (IntOp.cmpi .eq x y)) : Ideal .f32) = ind (x = y) := by
  unfold ind
  by_cases h : x = y
  · rw [if_pos h]; subst h
    show (((BitVec.setWidth 32 (IntOp.cmpi .eq x x)).toInt : ℝ) : EReal) = 1
    simp [IntOp.cmpi]
  · rw [if_neg h]
    have e : (x == y) = false := beq_false_of_ne h
    show (((BitVec.setWidth 32 (IntOp.cmpi .eq x y)).toInt : ℝ) : EReal) = 0
    simp [IntOp.cmpi, e]

/-- A comparison for difference, widened and converted, is the indicator of the difference. -/
theorem sitofp_cmpi_ne (x y : BitVec 32) :
    (FloatOps.sitofp .f32 (BitVec.setWidth 32 (IntOp.cmpi .ne x y)) : Ideal .f32) = ind (x ≠ y) := by
  unfold ind
  by_cases h : x = y
  · rw [if_neg (not_not_intro h)]; subst h
    show (((BitVec.setWidth 32 (IntOp.cmpi .ne x x)).toInt : ℝ) : EReal) = 0
    simp [IntOp.cmpi]
  · rw [if_pos h]
    have e : (x != y) = true := bne_iff_ne.2 h
    show (((BitVec.setWidth 32 (IntOp.cmpi .ne x y)).toInt : ℝ) : EReal) = 1
    simp [IntOp.cmpi, e]

/-- Words of small naturals are equal exactly when the naturals are. -/
theorem ofNat_inj {a b : ℕ} (ha : a < 1024) (hb : b < 1024) : BitVec.ofNat 32 a = BitVec.ofNat 32 b ↔ a = b := by
  constructor
  · intro h
    have := congrArg BitVec.toNat h
    simp only [BitVec.toNat_ofNat] at this
    omega
  · rintro rfl; rfl

/-- Two indicators of equivalent propositions are equal. -/
theorem ind_congr {p q : Prop} [Decidable p] [Decidable q] (h : p ↔ q) : ind p = ind q := by
  unfold ind; exact if_congr h rfl rfl

/-- The kernel's remainder of a row is its agent. -/
theorem agent_of_row (i : Fin 8) (n : Fin 128) : k0_pay11 (ix2 (row i n) 0) = BitVec.ofNat 32 n.val := by
  have h : ∀ r : Fin 1024, k0_pay11 (ix2 r 0) = BitVec.ofNat 32 (r.val % 128) := by
    intro r
    pointwise [k0_pay11]
    revert r
    decide +kernel
  rw [h]
  exact congrArg _ (by show (128 * i.val + n.val) % 128 = n.val; omega)

/-- The rows' samples as the kernel computes them: a matrix with one column per sample. -/
abbrev sampleOf : FVec Ideal S1024x8 .f32 :=
  k0_pay14 (iota .tc S1024x1 32 [0] iota_S1024x1_d0_w32) 128#32 k0_pay12 k0_pay13

/-- The transposed matrix of the rows' samples. -/
abbrev sampleOfT : FVec Ideal S8x1024 .f32 := k0_pay15

/-- The rows' agents as the kernel computes them: a matrix with one column per agent. -/
abbrev agentOf : FVec Ideal S1024x128 .f32 := k0_pay22 k0_pay11

/-- The transposed matrix of the rows' agents. -/
abbrev agentOfT : FVec Ideal S128x1024 .f32 :=
  k0_pay23 (iota .tc S128x1024 32 [0] iota_S128x1024_d0_w32) (iota .tc S128x1024 32 [1] iota_S128x1024_d1_w32)
    128#32 (Scalar.cmpi .eq 128#32 0#32) 1#32

/-- The one-hot matrix of the rows' samples. -/
theorem sampleOf_apply (i j : Fin 8) (n : Fin 128) :
    sampleOf (ix2 (row i n) j) = ind (i = j) := by
  have h : ∀ r : Fin 1024, sampleOf (ix2 r j)
      = ind (BitVec.ofNat 32 (r.val / 128) = BitVec.ofNat 32 j.val) := by
    intro r
    pointwise [sampleOf, k0_pay14, k0_pay12, k0_pay13]
    rw [sitofp_cmpi_eq]
    refine ind_congr (Eq.congr ?_ rfl)
    revert r
    decide +kernel
  rw [h]
  refine ind_congr ((ofNat_inj ?_ ?_).trans ?_)
  · show (128 * i.val + n.val) / 128 < 1024; omega
  · omega
  · rw [Fin.ext_iff]; show (128 * i.val + n.val) / 128 = j.val ↔ _; omega

/-- The transposed one-hot matrix of the rows' samples. -/
theorem sampleOfT_apply (i j : Fin 8) (n : Fin 128) :
    sampleOfT (ix2 j (row i n)) = ind (i = j) := by
  have h : ∀ r : Fin 1024, sampleOfT (ix2 j r) = ind (BitVec.ofNat 32 (r.val / 128) = BitVec.ofNat 32 j.val) := by
    intro r
    pointwise [sampleOfT, k0_pay15]
    rw [sitofp_cmpi_eq]
    refine ind_congr (Eq.congr ?_ rfl)
    revert r
    decide +kernel
  rw [h]
  refine ind_congr ((ofNat_inj ?_ ?_).trans ?_)
  · show (128 * i.val + n.val) / 128 < 1024; omega
  · omega
  · rw [Fin.ext_iff]; show (128 * i.val + n.val) / 128 = j.val ↔ _; omega

/-- The one-hot matrix of the rows' agents. -/
theorem agentOf_apply (i : Fin 8) (n k : Fin 128) :
    agentOf (ix2 (row i n) k) = ind (k = n) := by
  have h : agentOf (ix2 (row i n) k) = ind (BitVec.ofNat 32 k.val = k0_pay11 (ix2 (row i n) 0)) := by
    pointwise [agentOf, k0_pay22]
    rw [sitofp_cmpi_eq]
  rw [h, agent_of_row]
  refine ind_congr ((ofNat_inj ?_ ?_).trans ?_) <;> omega

/-- The transposed one-hot matrix of the rows' agents. -/
theorem agentOfT_apply (i : Fin 8) (n k : Fin 128) :
    agentOfT (ix2 k (row i n)) = ind (k = n) := by
  have h : ∀ r : Fin 1024, agentOfT (ix2 k r)
      = ind (BitVec.ofNat 32 k.val = BitVec.ofNat 32 (r.val % 128)) := by
    intro r
    pointwise [agentOfT, k0_pay23]
    rw [sitofp_cmpi_eq]
    refine ind_congr (Eq.congr rfl ?_)
    revert r
    decide +kernel
  rw [h]
  refine ind_congr ((ofNat_inj ?_ ?_).trans ?_)
  · omega
  · show (128 * i.val + n.val) % 128 < 1024; omega
  · rw [Fin.ext_iff]; show _ = (128 * i.val + n.val) % 128 ↔ _; omega

end Cert.Proof

end
-- ==== Proof.Sample.lean ====
/- The mathematics of one sample, in plain functions over finite index types: the encoder, the graph attention of the
   chosen agent over the agents of the sample, and the two output layers. Both the kernel and the reference are shown to
   hold these values. -/
module

public import Idealize.ShloMosaic.Lib.Pointwise

@[expose] public section

noncomputable section

namespace Cert.Proof

open Idealize.ShloMosaic

/-- The weights that all samples share. -/
structure Net where
  /-- The encoder's matrix. -/
  We : Fin 512 → Fin 128 → EReal
  /-- The encoder's bias. -/
  be : Fin 128 → EReal
  /-- The source-side matrix of the attention, its columns head after head. -/
  Wl : Fin 128 → Fin 256 → EReal
  /-- The source-side bias. -/
  bl : Fin 256 → EReal
  /-- The target-side matrix of the attention. -/
  Wr : Fin 128 → Fin 256 → EReal
  /-- The target-side bias. -/
  br : Fin 256 → EReal
  /-- The attention vector of each head. -/
  att : Fin 2 → Fin 128 → EReal
  /-- The bias added to the mean over the heads. -/
  bg : Fin 128 → EReal

/-- One sample: its observations, its adjacency, and the agent it is read for. -/
structure Sample where
  /-- The observation of each agent. -/
  obs : Fin 128 → Fin 512 → EReal
  /-- The adjacency words, source agent first. -/
  adj : Fin 128 → Fin 128 → BitVec 32
  /-- The chosen agent. -/
  agent : Fin 128

/-- Column `d` of head `hh` in the joined axis of both heads. -/
abbrev col (hh : Fin 2) (d : Fin 128) : Fin 256 := ⟨128 * hh.val + d.val, by omega⟩

/-- The leaky rectifier with the printed slope. -/
def leaky (z : EReal) : EReal := if 0 ≤ z then z else Ideal.ofBits .f32 0x3E4CCCCD#32 * z

/-- The encoding of agent `n`. -/
def enc (W : Net) (S : Sample) (n d : Fin 128) : EReal :=
  max (∑ f : Fin 512, S.obs n f * W.We f d + W.be d) 0

/-- The source-side transform of agent `n`. -/
def src (W : Net) (S : Sample) (n : Fin 128) (k : Fin 256) : EReal :=
  ∑ d : Fin 128, enc W S n d * W.Wl d k + W.bl k

/-- The target-side transform of the chosen agent. -/
def tgt (W : Net) (S : Sample) (k : Fin 256) : EReal :=
  ∑ d : Fin 128, enc W S S.agent d * W.Wr d k + W.br k

/-- The score of source agent `n` under head `hh`; agents that are neither neighbours nor the chosen agent itself get the
    printed large negative number. -/
def score (W : Net) (S : Sample) (hh : Fin 2) (n : Fin 128) : EReal :=
  if S.adj n S.agent ≠ 0#32 ∨ n = S.agent then
    ∑ d : Fin 128, leaky (src W S n (col hh d) + tgt W S (col hh d)) * W.att hh d
  else Ideal.ofBits .f32 0xCE6E6B28#32

/-- The largest score under head `hh`. -/
def top (W : Net) (S : Sample) (hh : Fin 2) : EReal :=
  Finset.univ.fold max (Ideal.ofBits .f32 0xFF800000#32) fun n => score W S hh n

/-- The attention weight of source agent `n` under head `hh`: the softmax of the scores. -/
def weight (W : Net) (S : Sample) (hh : Fin 2) (n : Fin 128) : EReal :=
  Ideal.div (Ideal.exp (score W S hh n - top W S hh)) (∑ j : Fin 128, Ideal.exp (score W S hh j - top W S hh))

/-- The message of head `hh`: the weighted sum of the source-side transforms. -/
def message (W : Net) (S : Sample) (hh : Fin 2) (d : Fin 128) : EReal :=
  ∑ n : Fin 128, weight W S hh n * src W S n (col hh d)

/-- The aggregated message: the mean over the two heads, plus the bias. -/
def aggregate (W : Net) (S : Sample) (d : Fin 128) : EReal :=
  (message W S 0 d + message W S 1 d) * Ideal.ofBits .f32 0x3F000000#32 + W.bg d

/-- The features of the chosen agent: its encoding, then its aggregated message. -/
def feature (W : Net) (S : Sample) (k : Fin 256) : EReal :=
  if h : k.val < 128 then enc W S S.agent ⟨k.val, h⟩ else aggregate W S ⟨k.val - 128, by omega⟩

/-- An output layer of `A` columns over the features. -/
def layer {A : ℕ} (W : Net) (S : Sample) (M : Fin 256 → Fin A → EReal) (b : Fin A → EReal) (q : Fin A) : EReal :=
  ∑ k : Fin 256, feature W S k * M k q + b q

end Cert.Proof

end
-- ==== Proof.Block.lean ====
/- What one grid point computes, stage by stage. A block holds eight samples; each of the kernel's stages is read at a row
   of the block and found to be the corresponding value of that row's sample. -/
module

public import proofs.«01_k».proof.Proof.Words
public import proofs.«01_k».proof.Proof.Sample

@[expose] public section

set_option maxRecDepth 16384

noncomputable section

namespace Cert.Proof

open Idealize.ShloMosaic Idealize.SL.Sem Cert.KernelIdeal Cert.KernelIdeal.Gen

/-- A sum over the rows against the transposed matrix of samples is a sum over one sample's agents. -/
theorem sum_sampleOfT (j : Fin 8) (F : Fin 1024 → EReal) :
    ∑ r, sampleOfT (ix2 j r) * F r = ∑ n, F (row j n) :=
  sum_rows_ind j _ (fun i n => F (row i n)) fun i n => by rw [sampleOfT_apply, ind_mul]

/-- A sum over the samples against a row of the matrix of samples is the term of the row's sample. -/
theorem sum_sampleOf (i : Fin 8) (n : Fin 128) (F : Fin 8 → EReal) :
    ∑ j, sampleOf (ix2 (row i n) j) * F j = F i := by
  rw [Finset.sum_congr rfl fun j _ => by rw [sampleOf_apply, ind_mul]]
  rw [Finset.sum_ite_eq]; exact if_pos (Finset.mem_univ i)

/-- The same with the factors exchanged. -/
theorem sum_mul_sampleOf (i : Fin 8) (n : Fin 128) (F : Fin 8 → EReal) :
    ∑ j, F j * sampleOf (ix2 (row i n) j) = F i := by
  rw [← sum_sampleOf i n F]
  exact Finset.sum_congr rfl fun j _ => mul_comm _ _

/-- A sum over a sample's agents against the indicator of one agent is that agent's term. -/
theorem sum_ind_eq (k : Fin 128) (F : Fin 128 → EReal) : ∑ n, ind (n = k) * F n = F k := by
  rw [Finset.sum_congr rfl fun n _ => ind_mul (n = k) (F n)]
  rw [Finset.sum_ite_eq']; exact if_pos (Finset.mem_univ k)

/-- The blocks a grid point reads hold the samples `S i` and the weights of `W`. -/
structure Holds (W : Net) (S : Fin 8 → Sample) (w : Fin 8 → BitVec 32)
    (x1 : Vec Ideal S1024x512 .f32) (x2 : Vec Ideal S1024x128 .i32) (x3 : Vec Ideal S512x128 .f32)
    (x4 : Vec Ideal S1x128 .f32) (x5 : Vec Ideal S128x256 .f32) (x6 : Vec Ideal S1x256 .f32)
    (x7 : Vec Ideal S128x256 .f32) (x8 : Vec Ideal S1x256 .f32) (x9 : Vec Ideal S256x2 .f32)
    (x10 : Vec Ideal S1x128 .f32) : Prop where
  agent : ∀ i, w i = BitVec.ofNat 32 (S i).agent.val
  obs : ∀ i n f, x1 (ix2 (row i n) f) = (S i).obs n f
  adj : ∀ i n k, x2 (ix2 (row i n) k) = (S i).adj n k
  We : ∀ f d, x3 (ix2 f d) = W.We f d
  be : ∀ d, x4 (ix2 0 d) = W.be d
  Wl : ∀ d k, x5 (ix2 d k) = W.Wl d k
  bl : ∀ k, x6 (ix2 0 k) = W.bl k
  Wr : ∀ d k, x7 (ix2 d k) = W.Wr d k
  br : ∀ k, x8 (ix2 0 k) = W.br k
  att : ∀ h d hh, x9 (ix2 (col h d) hh) = W.att h d * ind (h = hh)
  bg : ∀ d, x10 (ix2 0 d) = W.bg d

variable {W : Net} {S : Fin 8 → Sample} {w : Fin 8 → BitVec 32}
  {x1 : Vec Ideal S1024x512 .f32} {x2 : Vec Ideal S1024x128 .i32} {x3 : Vec Ideal S512x128 .f32}
  {x4 : Vec Ideal S1x128 .f32} {x5 : Vec Ideal S128x256 .f32} {x6 : Vec Ideal S1x256 .f32}
  {x7 : Vec Ideal S128x256 .f32} {x8 : Vec Ideal S1x256 .f32} {x9 : Vec Ideal S256x2 .f32}
  {x10 : Vec Ideal S1x128 .f32}

/-- The encoder stage, at a row. -/
theorem encode_apply (H : Holds W S w x1 x2 x3 x4 x5 x6 x7 x8 x9 x10) (i : Fin 8) (n d : Fin 128) :
    k0_pay2 x1 x3 x4 (ix2 (row i n) d) = enc W (S i) n d := by
  pointwise [k0_pay2]
  simp only [H.obs, H.We, H.be]
  rfl

/-- The source-side transform, at a row. -/
theorem source_apply (H : Holds W S w x1 x2 x3 x4 x5 x6 x7 x8 x9 x10) (i : Fin 8) (n : Fin 128) (k : Fin 256) :
    k0_pay3 x1 x3 x4 x5 x6 (ix2 (row i n) k) = src W (S i) n k := by
  pointwise [k0_pay3]
  simp only [encode_apply H, H.Wl, H.bl]
  rfl

/-- The column of agent words the kernel stacks, one word per sample. -/
abbrev stacked (w : Fin 8 → BitVec 32) : IVec S1024x1 32 :=
  k0_pay4 (F := Ideal) (w 0) (w 1) (w 2) (w 3) (w 4) (w 5) (w 6) (w 7)

/-- At a row it holds the word of the row's sample. -/
theorem stacked_apply (w : Fin 8 → BitVec 32) (i : Fin 8) (n : Fin 128) : stacked w (ix2 (row i n) 0) = w i := by
  have hn := n.isLt
  pointwise [stacked, k0_pay4]
  rcases i with ⟨i, hi⟩
  interval_cases i <;> simp (disch := omega) only [dif_pos, dif_neg] <;> rfl

/-- The one-hot columns of the agents, one column per sample. -/
abbrev agents (w : Fin 8 → BitVec 32) : FVec Ideal S128x8 .f32 :=
  k0_pay10 (F := Ideal) (w 5) (w 6) (w 7) (k0_pay5 (w 0)) (k0_pay6 (w 1)) (k0_pay7 (w 2)) (k0_pay8 (w 3)) (k0_pay9 (w 4))

/-- At an agent and a sample: one where the agent is the sample's. -/
theorem agents_apply (w : Fin 8 → BitVec 32) (i : Fin 8) (n : Fin 128) :
    agents w (ix2 n i) = ind (BitVec.ofNat 32 n.val = w i) := by
  rw [← sitofp_cmpi_eq]
  pointwise [agents, k0_pay10, k0_pay5, k0_pay6, k0_pay7, k0_pay8, k0_pay9]
  fin_cases i <;> rfl

/-- The bit that marks the chosen agent's row of each sample. -/
theorem chosen_apply (H : Holds W S w x1 x2 x3 x4 x5 x6 x7 x8 x9 x10) (i : Fin 8) (n : Fin 128) :
    k0_pay16 (stacked w) k0_pay11 (ix2 (row i n) 0) = BitVec.ofBool (decide (n = (S i).agent)) := by
  have h : k0_pay16 (stacked w) k0_pay11 (ix2 (row i n) 0)
      = IntOp.cmpi .eq (k0_pay11 (ix2 (row i n) 0)) (stacked w (ix2 (row i n) 0)) := rfl
  rw [h, agent_of_row, stacked_apply, H.agent]
  show BitVec.ofBool (_ == _) = _
  refine congrArg _ (Bool.eq_iff_iff.2 ?_)
  rw [beq_iff_eq, decide_eq_true_iff, Fin.ext_iff]
  exact ofNat_inj (by omega) (by omega)

/-- The same as a number. -/
theorem chosenF_apply (H : Holds W S w x1 x2 x3 x4 x5 x6 x7 x8 x9 x10) (i : Fin 8) (n : Fin 128) :
    k0_pay17 (F := Ideal) (stacked w) k0_pay11 (ix2 (row i n) 0) = ind (n = (S i).agent) := by
  have h : k0_pay17 (F := Ideal) (stacked w) k0_pay11 (ix2 (row i n) 0)
      = FloatOps.sitofp .f32 (BitVec.setWidth 32 (IntOp.cmpi .eq (k0_pay11 (ix2 (row i n) 0)) (stacked w (ix2 (row i n) 0)))) := rfl
  rw [h, sitofp_cmpi_eq, agent_of_row, stacked_apply, H.agent]
  refine ind_congr ?_
  rw [Fin.ext_iff]
  exact ofNat_inj (by omega) (by omega)

/-- The chosen agents' encodings, picked out by the one-hot rows. -/
theorem picked_apply (H : Holds W S w x1 x2 x3 x4 x5 x6 x7 x8 x9 x10) (i : Fin 8) (d : Fin 128) :
    k0_pay20 (k0_pay2 x1 x3 x4) sampleOfT (k0_pay17 (stacked w) k0_pay11) (ix2 i d) = enc W (S i) (S i).agent d := by
  pointwise [k0_pay20]
  rw [sum_sampleOfT i fun r => k0_pay2 x1 x3 x4 (ix2 r d) * k0_pay17 (F := Ideal) (stacked w) k0_pay11 (ix2 r 0)]
  simp only [chosenF_apply H, encode_apply H]
  rw [← sum_ind_eq (S i).agent fun n => enc W (S i) n d]
  exact Finset.sum_congr rfl fun n _ => mul_comm _ _

end Cert.Proof

end
-- ==== Proof.Scores.lean ====
/- What one grid point computes, continued: the masked scores of each row under each head. -/
module

public import proofs.«01_k».proof.Proof.Block

@[expose] public section

set_option maxRecDepth 16384

noncomputable section

namespace Cert.Proof

open Idealize.ShloMosaic Idealize.SL.Sem Cert.KernelIdeal Cert.KernelIdeal.Gen

variable {W : Net} {S : Fin 8 → Sample} {w : Fin 8 → BitVec 32}
  {x1 : Vec Ideal S1024x512 .f32} {x2 : Vec Ideal S1024x128 .i32} {x3 : Vec Ideal S512x128 .f32}
  {x4 : Vec Ideal S1x128 .f32} {x5 : Vec Ideal S128x256 .f32} {x6 : Vec Ideal S1x256 .f32}
  {x7 : Vec Ideal S128x256 .f32} {x8 : Vec Ideal S1x256 .f32} {x9 : Vec Ideal S256x2 .f32}
  {x10 : Vec Ideal S1x128 .f32}

/-- The chosen agents' encodings of a block. -/
abbrev picked (w : Fin 8 → BitVec 32) (x1 : Vec Ideal S1024x512 .f32) (x3 : Vec Ideal S512x128 .f32)
    (x4 : Vec Ideal S1x128 .f32) : FVec Ideal S8x128 .f32 :=
  k0_pay20 (k0_pay2 x1 x3 x4) sampleOfT (k0_pay17 (stacked w) k0_pay11)

/-- The masked scores of a block, one column per head. -/
abbrev scores (w : Fin 8 → BitVec 32) (x1 : Vec Ideal S1024x512 .f32) (x2 : Vec Ideal S1024x128 .i32)
    (x3 : Vec Ideal S512x128 .f32) (x4 : Vec Ideal S1x128 .f32) (x5 : Vec Ideal S128x256 .f32) (x6 : Vec Ideal S1x256 .f32)
    (x7 : Vec Ideal S128x256 .f32) (x8 : Vec Ideal S1x256 .f32) (x9 : Vec Ideal S256x2 .f32) : FVec Ideal S1024x2 .f32 :=
  k0_pay21 (k0_pay2 x1 x3 x4) (k0_pay3 x1 x3 x4 x5 x6) (agents w) sampleOf sampleOfT (k0_pay16 (stacked w) k0_pay11)
    (k0_pay17 (stacked w) k0_pay11) (k0_pay18 (F := Ideal) x2) k0_pay19 x7 x8 x9

/-- The target-side transform, spread over the rows of each sample. -/
theorem target_apply (H : Holds W S w x1 x2 x3 x4 x5 x6 x7 x8 x9 x10) (i : Fin 8) (n : Fin 128) (k : Fin 256) :
    ∑ j, sampleOf (ix2 (row i n) j) * (∑ d, picked w x1 x3 x4 (ix2 j d) * x7 (ix2 d k) + x8 (ix2 0 k)) = tgt W (S i) k := by
  rw [sum_sampleOf i n fun j => ∑ d, picked w x1 x3 x4 (ix2 j d) * x7 (ix2 d k) + x8 (ix2 0 k)]
  simp only [picked, picked_apply H, H.Wr, H.br]
  rfl

/-- The neighbour count of a row: the entry of its adjacency at the chosen agent, as a number. -/
theorem neighbour_apply (H : Holds W S w x1 x2 x3 x4 x5 x6 x7 x8 x9 x10) (i : Fin 8) (n : Fin 128) :
    ∑ j, (∑ k, (FloatOps.sitofp .f32 (BitVec.setWidth 32 (IntOp.cmpi .ne (x2 (ix2 (row i n) k)) 0#32)) : Ideal .f32)
      * agents w (ix2 k j)) * sampleOf (ix2 (row i n) j) = ind ((S i).adj n (S i).agent ≠ 0#32) := by
  rw [sum_mul_sampleOf i n]
  simp only [sitofp_cmpi_ne, agents_apply, H.agent, H.adj]
  rw [← sum_ind_eq (S i).agent fun k => ind ((S i).adj n k ≠ 0#32)]
  refine Finset.sum_congr rfl fun k _ => ?_
  rw [mul_comm]
  refine congrArg (· * _) (ind_congr ?_)
  rw [Fin.ext_iff]
  exact ofNat_inj (by omega) (by omega)

/-- An indicator exceeds zero exactly when its proposition holds. -/
theorem zero_lt_ind (p : Prop) [Decidable p] : 0 < ind p ↔ p := by
  unfold ind; split <;> simp_all

/-- The attention product of a row under head `hh`: the other head's columns meet zeros. -/
theorem product_apply (H : Holds W S w x1 x2 x3 x4 x5 x6 x7 x8 x9 x10) (F : Fin 256 → EReal) (hh : Fin 2) :
    ∑ k, F k * x9 (ix2 k hh) = ∑ d, F (col hh d) * W.att hh d := by
  rw [sum_cols]
  have e (h : Fin 2) (d : Fin 128) : F (col h d) * x9 (ix2 (col h d) hh) = if h = hh then F (col h d) * W.att h d else 0 := by
    rw [H.att, ← mul_assoc, mul_ind]
  have e0 (d : Fin 128) : (⟨d.val, by omega⟩ : Fin 256) = col 0 d := Fin.ext (by show d.val = 128 * 0 + d.val; omega)
  have e1 (d : Fin 128) : (⟨128 + d.val, by omega⟩ : Fin 256) = col 1 d := Fin.ext (by show 128 + d.val = 128 * 1 + d.val; omega)
  simp only [e0, e1, e]
  fin_cases hh <;> simp

/-- Choosing by the union of two tests is choosing by either. -/
theorem select_or {p q : Prop} [Decidable p] [Decidable q] {A : Type} (a b : A) :
    Scalar.select (IntOp.ori (BitVec.ofBool (decide p)) (BitVec.ofBool (decide q))) a b = if p ∨ q then a else b := by
  by_cases hp : p <;> by_cases hq : q <;> simp [hp, hq, Scalar.select, IntOp.ori]

/-- The masked score of a row under each head. -/
theorem scores_apply (H : Holds W S w x1 x2 x3 x4 x5 x6 x7 x8 x9 x10) (i : Fin 8) (n : Fin 128) (hh : Fin 2) :
    scores w x1 x2 x3 x4 x5 x6 x7 x8 x9 (ix2 (row i n) hh) = score W (S i) hh n := by
  pointwise [k0_pay21, k0_pay18, k0_pay19]
  rw [neighbour_apply H, chosen_apply H, product_apply H]
  simp only [target_apply H, source_apply H, zero_lt_ind]
  rw [select_or]
  rfl

end Cert.Proof

end
-- ==== Proof.Outputs.lean ====
/- What one grid point computes, finished: the softmax over each sample's agents, the messages, the features, and the two
   output layers. -/
module

public import proofs.«01_k».proof.Proof.Scores

@[expose] public section

set_option maxRecDepth 16384

noncomputable section

namespace Cert.Proof

open Idealize.ShloMosaic Idealize.SL.Sem Cert.KernelIdeal Cert.KernelIdeal.Gen

/-- Gathering a column of row values by agent and sample: the matrix products with the two one-hot matrices leave the value
    at the row of that agent and sample. -/
theorem gather_apply (F : Fin 1024 → EReal) (j : Fin 8) (k : Fin 128) :
    ∑ r, agentOfT (ix2 k r) * (F r * sampleOf (ix2 r j)) = F (row j k) := by
  rw [sum_rows_ind j _ (fun i n => ind (n = k) * F (row i n)) fun i n => ?_]
  · exact sum_ind_eq k fun n => F (row j n)
  · rw [sampleOf_apply, agentOfT_apply, mul_ind, ind_congr (eq_comm (a := k) (b := n))]
    split
    · rfl
    · exact mul_zero _

/-- Spreading values by agent and sample back over the rows. -/
theorem spread_apply (G : Fin 128 → Fin 8 → EReal) (i : Fin 8) (n : Fin 128) :
    ∑ j, (∑ k, agentOf (ix2 (row i n) k) * G k j) * sampleOf (ix2 (row i n) j) = G n i := by
  rw [sum_mul_sampleOf i n]
  simp only [agentOf_apply]
  exact sum_ind_eq n fun k => G k i

/-- The attention weights of head 0, at a row. -/
theorem weight0_apply {W : Net} {S : Fin 8 → Sample} {v : FVec Ideal S1024x2 .f32}
    (hv : ∀ i n hh, v (ix2 (row i n) hh) = score W (S i) hh n) (i : Fin 8) (n d : Fin 128) :
    k0_pay24 sampleOf v agentOf (iota .tc S128x1024 32 [0] iota_S128x1024_d0_w32)
      (iota .tc S128x1024 32 [1] iota_S128x1024_d1_w32) 128#32 (Scalar.cmpi .eq 128#32 0#32) 1#32 (ix2 (row i n) d)
      = weight W (S i) 0 n := by
  have g (j : Fin 8) (k : Fin 128) := gather_apply (fun r => v (ix2 r 0)) j k
  pointwise [k0_pay24]
  simp only [g, hv]
  rw [spread_apply]
  rfl

/-- The exponentials of head 1, at an agent and a sample. -/
theorem exp1_apply {W : Net} {S : Fin 8 → Sample} {v : FVec Ideal S1024x2 .f32}
    (hv : ∀ i n hh, v (ix2 (row i n) hh) = score W (S i) hh n) (i : Fin 8) (n : Fin 128) :
    k0_pay25 sampleOf v (iota .tc S128x1024 32 [0] iota_S128x1024_d0_w32)
      (iota .tc S128x1024 32 [1] iota_S128x1024_d1_w32) 128#32 (Scalar.cmpi .eq 128#32 0#32) 1#32 (ix2 n i)
      = Ideal.exp (score W (S i) 1 n - top W (S i) 1) := by
  have g (j : Fin 8) (k : Fin 128) := gather_apply (fun r => v (ix2 r 1)) j k
  pointwise [k0_pay25]
  simp only [g, hv]
  rfl

/-- Their sum over the sample's agents. -/
theorem sum1_apply {W : Net} {S : Fin 8 → Sample} {v : FVec Ideal S1024x2 .f32}
    (hv : ∀ i n hh, v (ix2 (row i n) hh) = score W (S i) hh n) (i : Fin 8) (n : Fin 128) :
    k0_pay26 sampleOf v (iota .tc S128x1024 32 [0] iota_S128x1024_d0_w32)
      (iota .tc S128x1024 32 [1] iota_S128x1024_d1_w32) 128#32 (Scalar.cmpi .eq 128#32 0#32) 1#32 (ix2 n i)
      = ∑ j, Ideal.exp (score W (S i) 1 j - top W (S i) 1) := by
  pointwise [k0_pay26]
  exact Finset.sum_congr rfl fun j _ => exp1_apply hv i j

/-- The features of each sample: the encoding of the chosen agent beside its aggregated message. -/
theorem feature_apply {W : Net} {S : Fin 8 → Sample} {v15 : FVec Ideal S1024x256 .f32} {v191 : FVec Ideal S8x128 .f32}
    {v256 : FVec Ideal S1024x128 .f32} {v265 v268 : FVec Ideal S128x8 .f32} {v284 : Vec Ideal S1x128 .f32}
    (h15 : ∀ i n k, v15 (ix2 (row i n) k) = src W (S i) n k)
    (h191 : ∀ i d, v191 (ix2 i d) = enc W (S i) (S i).agent d)
    (h256 : ∀ i n d, v256 (ix2 (row i n) d) = weight W (S i) 0 n)
    (h265 : ∀ i n, v265 (ix2 n i) = Ideal.exp (score W (S i) 1 n - top W (S i) 1))
    (h268 : ∀ i n, v268 (ix2 n i) = ∑ j, Ideal.exp (score W (S i) 1 j - top W (S i) 1))
    (h284 : ∀ d, v284 (ix2 0 d) = W.bg d) (i : Fin 8) (k : Fin 256) :
    k0_pay27 v15 sampleOf sampleOfT v191 agentOf v256 v265 v268 v284 (ix2 i k) = feature W (S i) k := by
  have hw (i : Fin 8) (n : Fin 128) : ∑ j, (∑ k, agentOf (ix2 (row i n) k) * Ideal.div (v265 (ix2 k j)) (v268 (ix2 k j)))
      * sampleOf (ix2 (row i n) j) = weight W (S i) 1 n := by
    rw [spread_apply (fun k j => Ideal.div (v265 (ix2 k j)) (v268 (ix2 k j))), h265, h268]; rfl
  pointwise [k0_pay27]
  unfold feature
  by_cases hk : k.val < 128
  · rw [dif_pos hk, dif_pos hk, h191]
  · have hk' : k.val - 128 < 128 := by omega
    rw [dif_neg hk, dif_neg hk, h284]
    simp only [dif_pos hk']
    rw [sum_sampleOfT i fun r => v256 (ix2 r ⟨k.val - 128, hk'⟩) * v15 (ix2 r ⟨k.val - 128, by omega⟩)]
    rw [sum_sampleOfT i fun r => (∑ j, (∑ k, agentOf (ix2 r k) * Ideal.div (v265 (ix2 k j)) (v268 (ix2 k j)))
      * sampleOf (ix2 r j)) * v15 (ix2 r ⟨128 + (k.val - 128), by omega⟩)]
    simp only [hw, h256, h15]
    unfold aggregate message
    simp only [col, Fin.val_zero, Fin.val_one, mul_zero, zero_add, mul_one]

section

variable {W : Net} {S : Fin 8 → Sample} {w : Fin 8 → BitVec 32}
  {x1 : Vec Ideal S1024x512 .f32} {x2 : Vec Ideal S1024x128 .i32} {x3 : Vec Ideal S512x128 .f32}
  {x4 : Vec Ideal S1x128 .f32} {x5 : Vec Ideal S128x256 .f32} {x6 : Vec Ideal S1x256 .f32}
  {x7 : Vec Ideal S128x256 .f32} {x8 : Vec Ideal S1x256 .f32} {x9 : Vec Ideal S256x2 .f32}
  {x10 : Vec Ideal S1x128 .f32}

/-- The attention weights of head 0 of a block, from its scores. -/
abbrev firstWeights (v : FVec Ideal S1024x2 .f32) : FVec Ideal S1024x128 .f32 :=
  k0_pay24 sampleOf v agentOf (iota .tc S128x1024 32 [0] iota_S128x1024_d0_w32)
    (iota .tc S128x1024 32 [1] iota_S128x1024_d1_w32) 128#32 (Scalar.cmpi .eq 128#32 0#32) 1#32

/-- The exponentials of head 1 of a block. -/
abbrev secondExps (v : FVec Ideal S1024x2 .f32) : FVec Ideal S128x8 .f32 :=
  k0_pay25 sampleOf v (iota .tc S128x1024 32 [0] iota_S128x1024_d0_w32)
    (iota .tc S128x1024 32 [1] iota_S128x1024_d1_w32) 128#32 (Scalar.cmpi .eq 128#32 0#32) 1#32

/-- Their sums. -/
abbrev secondSums (v : FVec Ideal S1024x2 .f32) : FVec Ideal S128x8 .f32 :=
  k0_pay26 sampleOf v (iota .tc S128x1024 32 [0] iota_S128x1024_d0_w32)
    (iota .tc S128x1024 32 [1] iota_S128x1024_d1_w32) 128#32 (Scalar.cmpi .eq 128#32 0#32) 1#32

/-- The first output of a block. -/
abbrev firstBlock (w : Fin 8 → BitVec 32) (x1 : Vec Ideal S1024x512 .f32) (x2 : Vec Ideal S1024x128 .i32)
    (x3 : Vec Ideal S512x128 .f32) (x4 : Vec Ideal S1x128 .f32) (x5 : Vec Ideal S128x256 .f32) (x6 : Vec Ideal S1x256 .f32)
    (x7 : Vec Ideal S128x256 .f32) (x8 : Vec Ideal S1x256 .f32) (x9 : Vec Ideal S256x2 .f32) (x10 : Vec Ideal S1x128 .f32)
    (x11 : Vec Ideal S256x6 .f32) (x12 : Vec Ideal S1x6 .f32) : FVec Ideal S8x1x6 .f32 :=
  k0_pay28 (k0_pay3 x1 x3 x4 x5 x6) sampleOf sampleOfT (picked w x1 x3 x4) agentOf
    (firstWeights (scores w x1 x2 x3 x4 x5 x6 x7 x8 x9)) (secondExps (scores w x1 x2 x3 x4 x5 x6 x7 x8 x9))
    (secondSums (scores w x1 x2 x3 x4 x5 x6 x7 x8 x9)) x10 x11 x12

/-- The second output of a block. -/
abbrev secondBlock (w : Fin 8 → BitVec 32) (x1 : Vec Ideal S1024x512 .f32) (x2 : Vec Ideal S1024x128 .i32)
    (x3 : Vec Ideal S512x128 .f32) (x4 : Vec Ideal S1x128 .f32) (x5 : Vec Ideal S128x256 .f32) (x6 : Vec Ideal S1x256 .f32)
    (x7 : Vec Ideal S128x256 .f32) (x8 : Vec Ideal S1x256 .f32) (x9 : Vec Ideal S256x2 .f32) (x10 : Vec Ideal S1x128 .f32)
    (x13 : Vec Ideal S256x1 .f32) (x14 : Vec Ideal S1x1 .f32) : FVec Ideal S8x1x1 .f32 :=
  k0_pay1 (k0_pay29 (k0_pay3 x1 x3 x4 x5 x6) sampleOf sampleOfT (picked w x1 x3 x4) agentOf
    (firstWeights (scores w x1 x2 x3 x4 x5 x6 x7 x8 x9)) (secondExps (scores w x1 x2 x3 x4 x5 x6 x7 x8 x9))
    (secondSums (scores w x1 x2 x3 x4 x5 x6 x7 x8 x9)) x10 x13 x14)

/-- The first output of a block holds the six columns of the first output layer for each sample. -/
theorem firstBlock_apply (H : Holds W S w x1 x2 x3 x4 x5 x6 x7 x8 x9 x10) (x11 : Vec Ideal S256x6 .f32)
    (x12 : Vec Ideal S1x6 .f32) (i : Fin 8) (q : Fin 6) :
    firstBlock w x1 x2 x3 x4 x5 x6 x7 x8 x9 x10 x11 x12 (ix3 i 0 q)
      = layer W (S i) (fun k q => x11 (ix2 k q)) (fun q => x12 (ix2 0 q)) q := by
  have hf := feature_apply (source_apply H) (picked_apply H) (weight0_apply (scores_apply H)) (exp1_apply (scores_apply H))
    (sum1_apply (scores_apply H)) H.bg
  pointwise [k0_pay28]
  simp only [hf]
  rfl

/-- The second output of a block holds the one column of the second output layer for each sample. -/
theorem secondBlock_apply (H : Holds W S w x1 x2 x3 x4 x5 x6 x7 x8 x9 x10) (x13 : Vec Ideal S256x1 .f32)
    (x14 : Vec Ideal S1x1 .f32) (i : Fin 8) :
    secondBlock w x1 x2 x3 x4 x5 x6 x7 x8 x9 x10 x13 x14 (ix3 i 0 0)
      = layer W (S i) (fun k q => x13 (ix2 k q)) (fun q => x14 (ix2 0 q)) (0 : Fin 1) := by
  have hf := feature_apply (source_apply H) (picked_apply H) (weight0_apply (scores_apply H)) (exp1_apply (scores_apply H))
    (sum1_apply (scores_apply H)) H.bg
  pointwise [k0_pay1, k0_pay29]
  simp only [hf]
  rfl

end

end Cert.Proof

end
-- ==== Proof.Model.lean ====
/- The values both programs are shown to hold, as functions of the fifteen argument arrays. -/
module

public import proofs.«01_k».proof.Proof.Sample

@[expose] public section

noncomputable section

namespace Cert.Proof

open Idealize.ShloMosaic

/-- The shared weights, from the argument arrays that hold them. -/
def netOf (We : Vec Ideal ⟨2, ![512, 128]⟩ .f32) (be : Vec Ideal ⟨1, ![128]⟩ .f32) (Wl : Vec Ideal ⟨2, ![128, 256]⟩ .f32)
    (bl : Vec Ideal ⟨1, ![256]⟩ .f32) (Wr : Vec Ideal ⟨2, ![128, 256]⟩ .f32) (br : Vec Ideal ⟨1, ![256]⟩ .f32)
    (att : Vec Ideal ⟨2, ![2, 128]⟩ .f32) (bg : Vec Ideal ⟨1, ![128]⟩ .f32) : Net where
  We f d := We (ix2 f d)
  be d := be (ix1 d)
  Wl d k := Wl (ix2 d k)
  bl k := bl (ix1 k)
  Wr d k := Wr (ix2 d k)
  br k := br (ix1 k)
  att h d := att (ix2 h d)
  bg d := bg (ix1 d)

/-- Sample `b` of the batch. Its chosen agent is read off the agent word; for a word that names none of the 128 agents the
    choice below is arbitrary, and the precondition excludes such words. -/
def sampleAt (obs : Vec Ideal ⟨3, ![16, 128, 512]⟩ .f32) (adj : Vec Ideal ⟨3, ![16, 128, 128]⟩ .i32)
    (agent : Vec Ideal ⟨2, ![16, 1]⟩ .i32) (b : Fin 16) : Sample where
  obs n f := obs (ix3 b n f)
  adj n k := adj (ix3 b n k)
  agent := ⟨BitVec.toNat (agent (ix2 b 0)) % 128, Nat.mod_lt _ (by omega)⟩

/-- Every agent word names one of the 128 agents. -/
def InRange (agent : Vec Ideal ⟨2, ![16, 1]⟩ .i32) : Prop := ∀ b, BitVec.toNat (agent (ix2 b 0)) < 128

/-- Under that condition the agent word is the number of the chosen agent. -/
theorem InRange.word {obs : Vec Ideal ⟨3, ![16, 128, 512]⟩ .f32} {adj : Vec Ideal ⟨3, ![16, 128, 128]⟩ .i32}
    {agent : Vec Ideal ⟨2, ![16, 1]⟩ .i32} (h : InRange agent) (b : Fin 16) :
    agent (ix2 b 0) = BitVec.ofNat 32 (sampleAt obs adj agent b).agent.val := by
  show agent (ix2 b 0) = BitVec.ofNat 32 (BitVec.toNat (agent (ix2 b 0)) % 128)
  rw [Nat.mod_eq_of_lt (h b)]
  exact BitVec.eq_of_toNat_eq (by simp)

/-- An output layer over the whole batch: one row per sample. -/
def head {A : ℕ} (W : Net) (S : Fin 16 → Sample) (M : Vec Ideal ⟨2, ![256, A]⟩ .f32) (v : Vec Ideal ⟨1, ![A]⟩ .f32) :
    Vec Ideal ⟨2, ![16, A]⟩ .f32 :=
  fun j => layer W (S (j 0)) (fun k q => M (ix2 k q)) (fun q => v (ix1 q)) (j 1)

end Cert.Proof

end
-- ==== Proof.Entry.lean ====
/- What the kernel's operands hold when the launch starts: the reshaped arguments, and the attention vectors laid out as a
   block-diagonal matrix. -/
module

public import proofs.«01_k».proof.Proof.Model
public import proofs.«01_k».proof.Proof.OneHot
public import proofs.«01_k».proof.Proof.Gen.KernelIdeal.Frame
public import Idealize.ShloMosaic.Lib.Pipeline.ValueKit

@[expose] public section

set_option maxRecDepth 16384

noncomputable section

namespace Cert.Proof

open Idealize.ShloMosaic Idealize.SL.Sem Cert.KernelIdeal Cert.KernelIdeal.Gen

variable (m : (ℓ : Loc nD τ sig) → Buf (Elt Ideal) ℓ) (c : Dev nD)

/-- The shared weights in the arguments of the run. -/
abbrev net : Net :=
  netOf (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))

/-- The samples in the arguments of the run. -/
abbrev sample (b : Fin 16) : Sample :=
  sampleAt (m ((c.tc : Thread nD τ).loc main_arg0)) (m ((c.tc : Thread nD τ).loc main_arg1))
    (m ((c.tc : Thread nD τ).loc main_arg2)) b

/-- The observations, their rows joined over the batch. -/
theorem entry_obs (r : Fin 2048) (f : Fin 512) : V0 m c (Proc.devRef .tc main_v0) (ix2 r f)
    = m ((c.tc : Thread nD τ).loc main_arg0) (ix3 ⟨r.val / 128, by omega⟩ ⟨r.val % 128, by omega⟩ f) := by
  show StableHlo.after hostOps0 (fun b => m (c, b)) (Proc.devRef .tc main_v0) (ix2 r f) = _
  entry_read
  pointwise

/-- The adjacency words, their rows joined over the batch. -/
theorem entry_adj (r : Fin 2048) (k : Fin 128) : V0 m c (Proc.devRef .tc main_v1) (ix2 r k)
    = m ((c.tc : Thread nD τ).loc main_arg1) (ix3 ⟨r.val / 128, by omega⟩ ⟨r.val % 128, by omega⟩ k) := by
  show StableHlo.after hostOps0 (fun b => m (c, b)) (Proc.devRef .tc main_v1) (ix2 r k) = _
  entry_read
  pointwise

/-- An equality of words converted to a number is its indicator. -/
theorem uitofp_eq (x y : BitVec 32) : (FloatOps.uitofp .f32 (IntOp.cmpi .eq x y) : Ideal .f32) = ind (x = y) := by
  unfold ind
  by_cases h : x = y
  · rw [if_pos h]; subst h
    show (((IntOp.cmpi .eq x x).toNat : ℝ) : EReal) = 1
    simp [IntOp.cmpi]
  · rw [if_neg h]
    have e : (x == y) = false := beq_false_of_ne h
    show (((IntOp.cmpi .eq x y).toNat : ℝ) : EReal) = 0
    simp [IntOp.cmpi, e]

/-- The attention vectors as a block-diagonal matrix: column `hh` holds head `hh`'s vector in its own rows. -/
theorem entry_att (h hh : Fin 2) (d : Fin 128) :
    V0 m c (Proc.devRef .tc main_v13) (ix2 (col h d) hh) = (net m c).att h d * ind (h = hh) := by
  show StableHlo.after hostOps0 (fun b => m (c, b)) (Proc.devRef .tc main_v13) (ix2 (col h d) hh) = _
  entry_read
  pointwise
  rw [uitofp_eq]
  have e1 : (128 * h.val + d.val) / 128 = h.val := by omega
  have e2 : (128 * h.val + d.val) % 128 = d.val := by omega
  have ew : (IntOp.addi (BitVec.ofNat 32 ((128 * h.val + d.val) / 128)) 0#32 = BitVec.ofNat 32 hh.val) ↔ h = hh := by
    rw [e1]
    exact (by decide : ∀ a b : Fin 2, (IntOp.addi (BitVec.ofNat 32 a.val) 0#32 = BitVec.ofNat 32 b.val) ↔ a = b) h hh
  congr 1
  · congr 1
    congr 1 <;> exact Fin.ext (by assumption)
  · unfold ind
    exact if_congr ew rfl rfl

/-- The encoder's bias as a row. -/
theorem entry_be (d : Fin 128) :
    V0 m c (Proc.devRef .tc main_v14) (ix2 0 d) = m ((c.tc : Thread nD τ).loc main_arg4) (ix1 d) := by
  show StableHlo.after hostOps0 (fun b => m (c, b)) (Proc.devRef .tc main_v14) (ix2 0 d) = _
  entry_read
  pointwise

/-- The source-side bias as a row. -/
theorem entry_bl (k : Fin 256) :
    V0 m c (Proc.devRef .tc main_v15) (ix2 0 k) = m ((c.tc : Thread nD τ).loc main_arg6) (ix1 k) := by
  show StableHlo.after hostOps0 (fun b => m (c, b)) (Proc.devRef .tc main_v15) (ix2 0 k) = _
  entry_read
  pointwise

/-- The target-side bias as a row. -/
theorem entry_br (k : Fin 256) :
    V0 m c (Proc.devRef .tc main_v16) (ix2 0 k) = m ((c.tc : Thread nD τ).loc main_arg8) (ix1 k) := by
  show StableHlo.after hostOps0 (fun b => m (c, b)) (Proc.devRef .tc main_v16) (ix2 0 k) = _
  entry_read
  pointwise

/-- The bias of the aggregated message as a row. -/
theorem entry_bg (d : Fin 128) :
    V0 m c (Proc.devRef .tc main_v17) (ix2 0 d) = m ((c.tc : Thread nD τ).loc main_arg10) (ix1 d) := by
  show StableHlo.after hostOps0 (fun b => m (c, b)) (Proc.devRef .tc main_v17) (ix2 0 d) = _
  entry_read
  pointwise

/-- The first output layer's bias as a row. -/
theorem entry_ba (q : Fin 6) :
    V0 m c (Proc.devRef .tc main_v18) (ix2 0 q) = m ((c.tc : Thread nD τ).loc main_arg12) (ix1 q) := by
  show StableHlo.after hostOps0 (fun b => m (c, b)) (Proc.devRef .tc main_v18) (ix2 0 q) = _
  entry_read
  pointwise

/-- The second output layer's bias as a row. -/
theorem entry_bv (q : Fin 1) :
    V0 m c (Proc.devRef .tc main_v19) (ix2 0 q) = m ((c.tc : Thread nD τ).loc main_arg14) (ix1 q) := by
  show StableHlo.after hostOps0 (fun b => m (c, b)) (Proc.devRef .tc main_v19) (ix2 0 q) = _
  obtain rfl : q = 0 := Subsingleton.elim _ _
  entry_read
  pointwise

end Cert.Proof

end
-- ==== Proof.Arrays.lean ====
/- What the kernel's output arrays hold after the launch. -/
module

public import proofs.«01_k».proof.Proof.Outputs
public import proofs.«01_k».proof.Proof.Entry
public import proofs.«01_k».proof.Proof.Gen.KernelIdeal.Frame
public import Idealize.ShloMosaic.Lib.Pipeline.ValueKit

@[expose] public section

set_option maxRecDepth 16384

noncomputable section

namespace Cert.Proof

open Idealize.ShloMosaic Idealize.SL.Sem Cert.KernelIdeal Cert.KernelIdeal.Gen

variable (m : (ℓ : Loc nD τ sig) → Buf (Elt Ideal) ℓ) (c : Dev nD)

/-- The place in the batch of sample `i` of grid point `t`. -/
abbrev place (t : Fin cfg0.N) (i : Fin 8) : Fin 16 := ⟨8 * t.val + i.val, by have := t.isLt; have : cfg0.N = 2 := N_0; omega⟩

/-- Where each grid point's blocks lie. -/
theorem index_facts : ∀ t : Fin cfg0.N, win0_0.index t = ![0, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0, 0] ∧ win0_16.index t = ![t.val, 0, 0] := by decide +kernel

/-- The row of the agent array that grid point `t` reads for its sample `i`. -/
theorem agent_row : ∀ (t : Fin cfg0.N) (i : Fin 8),
    k0_off1 (grid0.coords t) (BitVec.ofNat 32 i.val) = ![8 * t.val + i.val, 0] := by decide +kernel

/-- The agent words of the samples of grid point `t`. -/
abbrev words (t : Fin cfg0.N) (i : Fin 8) : BitVec 32 := iblk m c 0 t (ix2 (place t i) 0)

/-- The word the kernel loads for sample `i`. -/
theorem load_word (t : Fin cfg0.N) (i : Fin 8) (k : BitVec 32) (hk : k = BitVec.ofNat 32 i.val) (inb) (hp) :
    View.ld (iblk m c 0 t) (Rect.unit (s := S16x1) (k0_off1 (grid0.coords t) k) ![1, 1] inb)
      (Shape.Idx.first (s := ⟨2, ![1, 1]⟩) hp) = words m c t i := by
  subst hk
  have e := agent_row t i
  refine congrArg (iblk m c 0 t) ?_
  funext a
  apply Fin.ext
  have ea := congrFun e a
  fin_cases a
  · exact ea
  · exact ea

/-- The first output block of grid point `t`. -/
theorem first_out (t : Fin cfg0.N) : (outsAt0 m c t).1 = firstBlock (words m c t) (iblk m c 1 t) (iblk m c 2 t)
    (iblk m c 3 t) (iblk m c 4 t) (iblk m c 5 t) (iblk m c 6 t) (iblk m c 7 t) (iblk m c 8 t) (iblk m c 9 t)
    (iblk m c 10 t) (iblk m c 11 t) (iblk m c 12 t) := by
  have h0 := load_word m c t 0 0#32 rfl
  have h1 := load_word m c t 1 1#32 rfl
  have h2 := load_word m c t 2 2#32 rfl
  have h3 := load_word m c t 3 3#32 rfl
  have h4 := load_word m c t 4 4#32 rfl
  have h5 := load_word m c t 5 5#32 rfl
  have h6 := load_word m c t 6 6#32 rfl
  have h7 := load_word m c t 7 7#32 rfl
  unfold outsAt0
  dsimp only
  unfold out0_A_15
  frame_out
  simp only [h0, h1, h2, h3, h4, h5, h6, h7]
  rfl

/-- The second output block of grid point `t`. -/
theorem second_out (t : Fin cfg0.N) : (outsAt0 m c t).2 = secondBlock (words m c t) (iblk m c 1 t) (iblk m c 2 t)
    (iblk m c 3 t) (iblk m c 4 t) (iblk m c 5 t) (iblk m c 6 t) (iblk m c 7 t) (iblk m c 8 t) (iblk m c 9 t)
    (iblk m c 10 t) (iblk m c 13 t) (iblk m c 14 t) := by
  have h0 := load_word m c t 0 0#32 rfl
  have h1 := load_word m c t 1 1#32 rfl
  have h2 := load_word m c t 2 2#32 rfl
  have h3 := load_word m c t 3 3#32 rfl
  have h4 := load_word m c t 4 4#32 rfl
  have h5 := load_word m c t 5 5#32 rfl
  have h6 := load_word m c t 6 6#32 rfl
  have h7 := load_word m c t 7 7#32 rfl
  unfold outsAt0
  dsimp only
  unfold out0_A_16
  frame_out
  simp only [h0, h1, h2, h3, h4, h5, h6, h7]
  rfl

/-- The observations of the samples of grid point `t`. -/
theorem block_obs (t : Fin cfg0.N) (i : Fin 8) (n : Fin 128) (f : Fin 512) :
    iblk m c 1 t (ix2 (row i n) f) = m ((c.tc : Thread nD τ).loc main_arg0) (ix3 (place t i) n f) := by
  obtain ⟨e0, e1, e2, e3, e4, e5, e6, e7, e8, e9, e10, e11, e12, e13, e14, -⟩ := index_facts t
  show V0 m c (Proc.devRef .tc main_v0) ((win0_1.blk t).view.emb (ix2 (row i n) f)) = _
  have h : 1024 * t.val + 128 * i.val + n.val < 2048 := by have := t.isLt; have : cfg0.N = 2 := N_0; omega
  rw [show (win0_1.blk t).view.emb (ix2 (row i n) f) = ix2 ⟨1024 * t.val + 128 * i.val + n.val, h⟩ f from by blk_ext [e1],
    entry_obs]
  blk_ext

/-- The adjacency words of the samples of grid point `t`. -/
theorem block_adj (t : Fin cfg0.N) (i : Fin 8) (n : Fin 128) (k : Fin 128) :
    iblk m c 2 t (ix2 (row i n) k) = m ((c.tc : Thread nD τ).loc main_arg1) (ix3 (place t i) n k) := by
  obtain ⟨e0, e1, e2, e3, e4, e5, e6, e7, e8, e9, e10, e11, e12, e13, e14, -⟩ := index_facts t
  show V0 m c (Proc.devRef .tc main_v1) ((win0_2.blk t).view.emb (ix2 (row i n) k)) = _
  have h : 1024 * t.val + 128 * i.val + n.val < 2048 := by have := t.isLt; have : cfg0.N = 2 := N_0; omega
  rw [show (win0_2.blk t).view.emb (ix2 (row i n) k) = ix2 ⟨1024 * t.val + 128 * i.val + n.val, h⟩ k from by blk_ext [e2],
    entry_adj]
  blk_ext

/-- The encoder's matrix, as each grid point reads it. -/
theorem block_We (t : Fin cfg0.N) (p : Fin 512) (q : Fin 128) :
    iblk m c 3 t (ix2 p q) = m ((c.tc : Thread nD τ).loc main_arg3) (ix2 p q) := by
  obtain ⟨e0, e1, e2, e3, e4, e5, e6, e7, e8, e9, e10, e11, e12, e13, e14, -⟩ := index_facts t
  blk_ext [iblk, V, e3]

/-- The encoder's bias. -/
theorem block_be (t : Fin cfg0.N) (q : Fin 128) :
    iblk m c 4 t (ix2 0 q) = m ((c.tc : Thread nD τ).loc main_arg4) (ix1 q) := by
  obtain ⟨e0, e1, e2, e3, e4, e5, e6, e7, e8, e9, e10, e11, e12, e13, e14, -⟩ := index_facts t
  refine Eq.trans ?_ (entry_be m c q)
  blk_ext [iblk, V, e4]

/-- The source-side matrix. -/
theorem block_Wl (t : Fin cfg0.N) (p : Fin 128) (q : Fin 256) :
    iblk m c 5 t (ix2 p q) = m ((c.tc : Thread nD τ).loc main_arg5) (ix2 p q) := by
  obtain ⟨e0, e1, e2, e3, e4, e5, e6, e7, e8, e9, e10, e11, e12, e13, e14, -⟩ := index_facts t
  blk_ext [iblk, V, e5]

/-- The source-side bias. -/
theorem block_bl (t : Fin cfg0.N) (q : Fin 256) :
    iblk m c 6 t (ix2 0 q) = m ((c.tc : Thread nD τ).loc main_arg6) (ix1 q) := by
  obtain ⟨e0, e1, e2, e3, e4, e5, e6, e7, e8, e9, e10, e11, e12, e13, e14, -⟩ := index_facts t
  refine Eq.trans ?_ (entry_bl m c q)
  blk_ext [iblk, V, e6]

/-- The target-side matrix. -/
theorem block_Wr (t : Fin cfg0.N) (p : Fin 128) (q : Fin 256) :
    iblk m c 7 t (ix2 p q) = m ((c.tc : Thread nD τ).loc main_arg7) (ix2 p q) := by
  obtain ⟨e0, e1, e2, e3, e4, e5, e6, e7, e8, e9, e10, e11, e12, e13, e14, -⟩ := index_facts t
  blk_ext [iblk, V, e7]

/-- The target-side bias. -/
theorem block_br (t : Fin cfg0.N) (q : Fin 256) :
    iblk m c 8 t (ix2 0 q) = m ((c.tc : Thread nD τ).loc main_arg8) (ix1 q) := by
  obtain ⟨e0, e1, e2, e3, e4, e5, e6, e7, e8, e9, e10, e11, e12, e13, e14, -⟩ := index_facts t
  refine Eq.trans ?_ (entry_br m c q)
  blk_ext [iblk, V, e8]

/-- The block-diagonal matrix of the attention vectors. -/
theorem block_att (t : Fin cfg0.N) (h hh : Fin 2) (d : Fin 128) :
    iblk m c 9 t (ix2 (col h d) hh) = (net m c).att h d * ind (h = hh) := by
  obtain ⟨e0, e1, e2, e3, e4, e5, e6, e7, e8, e9, e10, e11, e12, e13, e14, -⟩ := index_facts t
  refine Eq.trans ?_ (entry_att m c h hh d)
  blk_ext [iblk, V, e9]

/-- The bias of the aggregated message. -/
theorem block_bg (t : Fin cfg0.N) (q : Fin 128) :
    iblk m c 10 t (ix2 0 q) = m ((c.tc : Thread nD τ).loc main_arg10) (ix1 q) := by
  obtain ⟨e0, e1, e2, e3, e4, e5, e6, e7, e8, e9, e10, e11, e12, e13, e14, -⟩ := index_facts t
  refine Eq.trans ?_ (entry_bg m c q)
  blk_ext [iblk, V, e10]

/-- The first output layer's matrix. -/
theorem block_Ma (t : Fin cfg0.N) (p : Fin 256) (q : Fin 6) :
    iblk m c 11 t (ix2 p q) = m ((c.tc : Thread nD τ).loc main_arg11) (ix2 p q) := by
  obtain ⟨e0, e1, e2, e3, e4, e5, e6, e7, e8, e9, e10, e11, e12, e13, e14, -⟩ := index_facts t
  blk_ext [iblk, V, e11]

/-- The first output layer's bias. -/
theorem block_ba (t : Fin cfg0.N) (q : Fin 6) :
    iblk m c 12 t (ix2 0 q) = m ((c.tc : Thread nD τ).loc main_arg12) (ix1 q) := by
  obtain ⟨e0, e1, e2, e3, e4, e5, e6, e7, e8, e9, e10, e11, e12, e13, e14, -⟩ := index_facts t
  refine Eq.trans ?_ (entry_ba m c q)
  blk_ext [iblk, V, e12]

/-- The second output layer's matrix. -/
theorem block_Mv (t : Fin cfg0.N) (p : Fin 256) (q : Fin 1) :
    iblk m c 13 t (ix2 p q) = m ((c.tc : Thread nD τ).loc main_arg13) (ix2 p q) := by
  obtain ⟨e0, e1, e2, e3, e4, e5, e6, e7, e8, e9, e10, e11, e12, e13, e14, -⟩ := index_facts t
  blk_ext [iblk, V, e13]

/-- The second output layer's bias. -/
theorem block_bv (t : Fin cfg0.N) (q : Fin 1) :
    iblk m c 14 t (ix2 0 q) = m ((c.tc : Thread nD τ).loc main_arg14) (ix1 q) := by
  obtain ⟨e0, e1, e2, e3, e4, e5, e6, e7, e8, e9, e10, e11, e12, e13, e14, -⟩ := index_facts t
  refine Eq.trans ?_ (entry_bv m c q)
  blk_ext [iblk, V, e14]

/-- The agent words of the samples of grid point `t`, as numbers of agents. -/
theorem block_agent (hr : InRange (m ((c.tc : Thread nD τ).loc main_arg2))) (t : Fin cfg0.N) (i : Fin 8) :
    words m c t i = BitVec.ofNat 32 (sample m c (place t i)).agent.val := by
  obtain ⟨e0, e1, e2, e3, e4, e5, e6, e7, e8, e9, e10, e11, e12, e13, e14, -⟩ := index_facts t
  refine Eq.trans ?_ (hr.word (place t i))
  unfold words
  blk_ext [iblk, V, e0]

/-- The blocks that grid point `t` reads hold its eight samples and the shared weights. -/
theorem holds (hr : InRange (m ((c.tc : Thread nD τ).loc main_arg2))) (t : Fin cfg0.N) :
    Holds (net m c) (fun i => sample m c (place t i)) (words m c t) (iblk m c 1 t) (iblk m c 2 t)
      (iblk m c 3 t) (iblk m c 4 t) (iblk m c 5 t) (iblk m c 6 t) (iblk m c 7 t) (iblk m c 8 t) (iblk m c 9 t)
      (iblk m c 10 t) where
  agent := block_agent m c hr t
  obs := block_obs m c t
  adj := block_adj m c t
  We := block_We m c t
  be := block_be m c t
  Wl := block_Wl m c t
  bl := block_bl m c t
  Wr := block_Wr m c t
  br := block_br m c t
  att h d hh := block_att m c t h hh d
  bg := block_bg m c t

/-- The first output array after the launch. -/
theorem first_array (hr : InRange (m ((c.tc : Thread nD τ).loc main_arg2))) :
    (dats m 0 c).arrAt 15 (cfgs 0).N = fun j : S16x1x6.Idx => layer (net m c) (sample m c (j 0))
      (fun k q => m ((c.tc : Thread nD τ).loc main_arg11) (ix2 k q))
      (fun q => m ((c.tc : Thread nD τ).loc main_arg12) (ix1 q)) (j 2) := by
  refine (dats m 0 c).arrAt_eq_of_covers 15 _ (by decide +kernel) fun t hf y => ?_
  obtain ⟨e0, e1, e2, e3, e4, e5, e6, e7, e8, e9, e10, e11, e12, e13, e14, e15, -⟩ := index_facts t
  blk_simp
  rw [after0_15, first_out]
  obtain ⟨i, z, q, rfl⟩ : ∃ (i : Fin 8) (z : Fin 1) (q : Fin 6), y = ix3 i z q := ⟨y 0, y 1, y 2, eq_ix3 y⟩
  obtain rfl : z = 0 := Subsingleton.elim _ _
  rw [show ((View.whole main_v20_0).slice (win0_15.rect t)).emb (ix3 i 0 q) = ix3 (place t i) 0 q from by blk_ext [e15]]
  refine (firstBlock_apply (holds m c hr t) _ _ i q).trans ?_
  simp only [block_Ma, block_ba]
  rfl

/-- The second output array after the launch. -/
theorem second_array (hr : InRange (m ((c.tc : Thread nD τ).loc main_arg2))) :
    (dats m 0 c).arrAt 16 (cfgs 0).N = fun j : S16x1x1.Idx => layer (net m c) (sample m c (j 0))
      (fun k q => m ((c.tc : Thread nD τ).loc main_arg13) (ix2 k q))
      (fun q => m ((c.tc : Thread nD τ).loc main_arg14) (ix1 q)) (j 2) := by
  refine (dats m 0 c).arrAt_eq_of_covers 16 _ (by decide +kernel) fun t hf y => ?_
  obtain ⟨e0, e1, e2, e3, e4, e5, e6, e7, e8, e9, e10, e11, e12, e13, e14, e15, e16⟩ := index_facts t
  blk_simp
  rw [after0_16, second_out]
  obtain ⟨i, z, q, rfl⟩ : ∃ (i : Fin 8) (z : Fin 1) (q : Fin 1), y = ix3 i z q := ⟨y 0, y 1, y 2, eq_ix3 y⟩
  obtain rfl : z = 0 := Subsingleton.elim _ _
  obtain rfl : q = 0 := Subsingleton.elim _ _
  rw [show ((View.whole main_v20_1).slice (win0_16.rect t)).emb (ix3 i 0 0) = ix3 (place t i) 0 0 from by blk_ext [e16]]
  refine (secondBlock_apply (holds m c hr t) _ _ i).trans ?_
  simp only [block_Mv, block_bv]
  rfl

end Cert.Proof

end
-- ==== Proof.Tail.lean ====
/- After the grid: the two output arrays lose their unit axis, and hold the output layers of the whole batch. -/
module

public import proofs.«01_k».proof.Proof.Arrays

@[expose] public section

set_option maxRecDepth 16384

noncomputable section

namespace Cert.Proof

open Idealize.ShloMosaic Idealize.SL.Sem Cert.KernelIdeal Cert.KernelIdeal.Gen

variable (m : (ℓ : Loc nD τ sig) → Buf (Elt Ideal) ℓ) (c : Dev nD)

/-- The first result of the last operations is the first output array without its unit axis. -/
theorem first_tail (V : Valuation τ sig (Elt Ideal)) (b : Fin 16) (q : Fin 6) :
    StableHlo.after hostOps1 V (Proc.devRef .tc main_v21) (ix2 b q) = V (Proc.devRef .tc main_v20_0) (ix3 b 0 q) := by
  entry_read
  pointwise

/-- The second result of the last operations is the second output array without one of its unit axes. -/
theorem second_tail (V : Valuation τ sig (Elt Ideal)) (b : Fin 16) :
    StableHlo.after hostOps1 V (Proc.devRef .tc main_v22) (ix2 b 0) = V (Proc.devRef .tc main_v20_1) (ix3 b 0 0) := by
  entry_read
  pointwise

/-- The first result at the end of the program. -/
theorem first_result (hr : InRange (m ((c.tc : Thread nD τ).loc main_arg2))) :
    Pipeline.afterTail₀ cfgs (dats m) 0 (V0 m) [hostOps1] c main_v21
      = head (net m c) (sample m c) (m ((c.tc : Thread nD τ).loc main_arg11)) (m ((c.tc : Thread nD τ).loc main_arg12)) := by
  have e : Pipeline.withArrays spec0 c (V0 m c) (fun w => (dats m 0 c).arrAt w (cfgs 0).N) (Proc.devRef .tc main_v20_0)
      = (dats m 0 c).arrAt 15 (cfgs 0).N := Pipeline.withArrays_arr spec0 (by decide) c _ _ 15
  funext j
  obtain ⟨b, q, rfl⟩ : ∃ (b : Fin 16) (q : Fin 6), j = ix2 b q := ⟨j 0, j 1, by funext a; fin_cases a <;> rfl⟩
  exact (first_tail _ b q).trans (congrFun (e.trans (first_array m c hr)) (ix3 b 0 q))

/-- The second result at the end of the program. -/
theorem second_result (hr : InRange (m ((c.tc : Thread nD τ).loc main_arg2))) :
    Pipeline.afterTail₀ cfgs (dats m) 0 (V0 m) [hostOps1] c main_v22
      = head (net m c) (sample m c) (m ((c.tc : Thread nD τ).loc main_arg13)) (m ((c.tc : Thread nD τ).loc main_arg14)) := by
  have e : Pipeline.withArrays spec0 c (V0 m c) (fun w => (dats m 0 c).arrAt w (cfgs 0).N) (Proc.devRef .tc main_v20_1)
      = (dats m 0 c).arrAt 16 (cfgs 0).N := Pipeline.withArrays_arr spec0 (by decide) c _ _ 16
  funext j
  obtain ⟨b, q, rfl⟩ : ∃ (b : Fin 16) (q : Fin 1), j = ix2 b q := ⟨j 0, j 1, by funext a; fin_cases a <;> rfl⟩
  obtain rfl : q = 0 := Subsingleton.elim _ _
  exact (second_tail _ b).trans (congrFun (e.trans (second_array m c hr)) (ix3 b 0 0))

/-- The kernel's run: both results hold their output layer, under the condition on the agent words. -/
theorem kernel_run (g : Dev nD → PrngReg) (hr : ∀ c : Dev nD, InRange (m ((c.tc : Thread nD τ).loc main_arg2))) :
    θ_run (defs (F := Ideal)) (onTc (τ := τ) (main (F := Ideal))) ⟨m, fun _ => 0, g⟩ fun r => ∀ c : Dev nD,
      r.2.mem ((c.tc : Thread nD τ).loc main_v21)
        = head (net m c) (sample m c) (m ((c.tc : Thread nD τ).loc main_arg11)) (m ((c.tc : Thread nD τ).loc main_arg12))
      ∧ r.2.mem ((c.tc : Thread nD τ).loc main_v22)
        = head (net m c) (sample m c) (m ((c.tc : Thread nD τ).loc main_arg13)) (m ((c.tc : Thread nD τ).loc main_arg14)) :=
  θ_run_mono (run_main m g) fun _ h c =>
    ⟨((h c).2 main_v21 (Pipeline.mem_restRefs_of main_v21 (by decide) (by decide))).trans (first_result m c (hr c)),
     ((h c).2 main_v22 (Pipeline.mem_restRefs_of main_v22 (by decide) (by decide))).trans (second_result m c (hr c))⟩

end Cert.Proof

end
-- ==== Proof.Reference.lean ====
/- What the reference computes, from the encoder to the masked scores, one stage after another at one index. -/
module

public import proofs.«01_k».proof.Proof.Model
public import proofs.«01_k».proof.Proof.Block
public import proofs.«01_k».proof.Proof.Entry
public import proofs.«01_k».proof.Proof.Gen.ReferenceIdeal.Read

@[expose] public section

set_option maxRecDepth 16384

noncomputable section

namespace Cert.Proof

open Idealize.ShloMosaic Cert.ReferenceIdeal Cert.ReferenceIdeal.Read

/-- The reference's argument arrays hold the weights `W` and the samples `S`, and every agent word is the number of its
    sample's agent. -/
structure Given (W : Net) (S : Fin 16 → Sample) (x0 : Vec Ideal S16x128x512 .f32) (x1 : Vec Ideal S16x128x128 .i32)
    (x2 : Vec Ideal S16x1 .i32) (x3 : Vec Ideal S512x128 .f32) (x4 : Vec Ideal S128 .f32) (x5 : Vec Ideal S128x256 .f32)
    (x6 : Vec Ideal S256 .f32) (x7 : Vec Ideal S128x256 .f32) (x8 : Vec Ideal S256 .f32) (x9 : Vec Ideal S2x128 .f32)
    (x10 : Vec Ideal S128 .f32) : Prop where
  obs : ∀ b n f, x0 (ix3 b n f) = (S b).obs n f
  adj : ∀ b n k, x1 (ix3 b n k) = (S b).adj n k
  agent : ∀ b, x2 (ix2 b 0) = BitVec.ofNat 32 (S b).agent.val
  We : ∀ f d, x3 (ix2 f d) = W.We f d
  be : ∀ d, x4 (ix1 d) = W.be d
  Wl : ∀ d k, x5 (ix2 d k) = W.Wl d k
  bl : ∀ k, x6 (ix1 k) = W.bl k
  Wr : ∀ d k, x7 (ix2 d k) = W.Wr d k
  br : ∀ k, x8 (ix1 k) = W.br k
  att : ∀ h d, x9 (ix2 h d) = W.att h d
  bg : ∀ d, x10 (ix1 d) = W.bg d

variable {W : Net} {S : Fin 16 → Sample} {x0 : Vec Ideal S16x128x512 .f32} {x1 : Vec Ideal S16x128x128 .i32}
  {x2 : Vec Ideal S16x1 .i32} {x3 : Vec Ideal S512x128 .f32} {x4 : Vec Ideal S128 .f32} {x5 : Vec Ideal S128x256 .f32}
  {x6 : Vec Ideal S256 .f32} {x7 : Vec Ideal S128x256 .f32} {x8 : Vec Ideal S256 .f32} {x9 : Vec Ideal S2x128 .f32}
  {x10 : Vec Ideal S128 .f32}

/-- The reference's encodings. -/
theorem encoding (H : Given W S x0 x1 x2 x3 x4 x5 x6 x7 x8 x9 x10) (b : Fin 16) (n d : Fin 128) :
    val_main_v4 (F := Ideal) x0 x3 x4 (ix3 b n d) = enc W (S b) n d := by
  pointwise [val_main_v4, val_main_v3, val_main_v2, val_main_v1, val_main_v0, val_main_call0_v0, val_main_call0_cst]
  simp only [H.obs, H.We, H.be]
  rfl

/-- The reference's source-side transforms, both heads side by side. -/
theorem source (H : Given W S x0 x1 x2 x3 x4 x5 x6 x7 x8 x9 x10) (b : Fin 16) (n : Fin 128) (k : Fin 256) :
    val_main_v8 (F := Ideal) x0 x3 x4 x5 x6 (ix3 b n k) = src W (S b) n k := by
  pointwise [val_main_v8, val_main_v7, val_main_v6, val_main_v5]
  simp only [encoding H, H.Wl, H.bl]
  rfl

/-- The reference's target-side transform of the chosen agent. -/
theorem target (H : Given W S x0 x1 x2 x3 x4 x5 x6 x7 x8 x9 x10) (b : Fin 16) (k : Fin 256) :
    val_main_v13 (F := Ideal) x0 x3 x4 x7 x8 (ix3 b (S b).agent k) = tgt W (S b) k := by
  pointwise [val_main_v13, val_main_v12, val_main_v11, val_main_v10]
  simp only [encoding H, H.Wr, H.br]
  rfl

/-- The same source-side transforms, the heads on an axis of their own. -/
theorem source_head (H : Given W S x0 x1 x2 x3 x4 x5 x6 x7 x8 x9 x10) (b : Fin 16) (n : Fin 128) (hh : Fin 2) (d : Fin 128) :
    val_main_v9 (F := Ideal) x0 x3 x4 x5 x6 (ix4 b n hh d) = src W (S b) n (col hh d) := by
  rw [← source H]
  pointwise [val_main_v9]
  rw [show (⟨hh.val * 128 + d.val, by omega⟩ : Fin 256) = col hh d from Fin.ext (by show hh.val * 128 + d.val = 128 * hh.val + d.val; omega)]

/-- The same target-side transform, the heads on an axis of their own. -/
theorem target_head (H : Given W S x0 x1 x2 x3 x4 x5 x6 x7 x8 x9 x10) (b : Fin 16) (hh : Fin 2) (d : Fin 128) :
    val_main_v14 (F := Ideal) x0 x3 x4 x7 x8 (ix4 b (S b).agent hh d) = tgt W (S b) (col hh d) := by
  rw [← target H]
  pointwise [val_main_v14]
  rw [show (⟨hh.val * 128 + d.val, by omega⟩ : Fin 256) = col hh d from Fin.ext (by show hh.val * 128 + d.val = 128 * hh.val + d.val; omega)]

/-- The unmasked score of the chosen agent against agent `n`. -/
theorem raw_score (H : Given W S x0 x1 x2 x3 x4 x5 x6 x7 x8 x9 x10) (b : Fin 16) (hh : Fin 2) (n : Fin 128) :
    val_main_v22 (F := Ideal) x0 x3 x4 x5 x6 x7 x8 x9 (ix4 b hh (S b).agent n)
      = ∑ d : Fin 128, leaky (src W (S b) n (col hh d) + tgt W (S b) (col hh d)) * W.att hh d := by
  pointwise [val_main_v22, val_main_v21, val_main_v20, val_main_call1_v1, val_main_call1_v4, val_main_call1_v0,
    val_main_call1_v3, val_main_call1_cst, val_main_cst, val_main_call1_v2, val_main_v19, val_main_v17, val_main_v15, val_main_v18,
    val_main_v16]
  simp only [target_head H, source_head H, H.att]
  refine Finset.sum_congr rfl fun d _ => ?_
  rw [mul_comm, add_comm (tgt W (S b) (col hh d))]
  rfl

/-- The union of a test for difference and a test for equality is set when either holds. -/
theorem ori_cmpi {p : Prop} [Decidable p] (u v w z : BitVec 32) (h : w = z ↔ p) :
    IntOp.ori (IntOp.cmpi .ne u v) (IntOp.cmpi .eq w z) = if u ≠ v ∨ p then 1#1 else 0#1 := by
  have eu : (u != v) = decide (u ≠ v) := by
    by_cases hu : u = v
    · subst hu; simp
    · rw [bne_iff_ne.2 hu, decide_eq_true hu]
  have ew : (w == z) = decide p := by
    by_cases hw : w = z
    · rw [decide_eq_true (h.1 hw), beq_iff_eq.2 hw]
    · rw [beq_false_of_ne hw, decide_eq_false fun hp => hw (h.2 hp)]
  show BitVec.ofBool (u != v) ||| BitVec.ofBool (w == z) = _
  rw [eu, ew]
  by_cases hu : u = v <;> by_cases hp : p <;> simp [hu, hp]

/-- Whether agent `n` is a neighbour of the chosen agent, or that agent itself. -/
theorem mask (H : Given W S x0 x1 x2 x3 x4 x5 x6 x7 x8 x9 x10) (b : Fin 16) (hh : Fin 2) (n : Fin 128) :
    val_main_call2_v0 (F := Ideal) x1 (ix4 b hh (S b).agent n)
      = if (S b).adj n (S b).agent ≠ 0#32 ∨ n = (S b).agent then 1#1 else 0#1 := by
  pointwise [val_main_call2_v0, val_main_v34, val_main_v33, val_main_v32, val_main_v31, val_main_v30, val_main_v29, val_main_v28,
    val_main_c_0, val_main_v27, val_main_v26, val_main_v25, val_main_v24, val_main_c, val_main_v23]
  rw [H.adj, ori_cmpi (p := n = (S b).agent)]
  rw [Fin.ext_iff]
  show BitVec.ofNat 32 (S b).agent.val + 0#32 = BitVec.ofNat 32 n.val ↔ _
  rw [BitVec.add_zero, eq_comm]
  exact ofNat_inj (by omega) (by omega)

/-- The masked score of the chosen agent against agent `n`. -/
theorem masked_score (H : Given W S x0 x1 x2 x3 x4 x5 x6 x7 x8 x9 x10) (b : Fin 16) (hh : Fin 2) (n : Fin 128) :
    val_main_v35 (F := Ideal) x0 x1 x3 x4 x5 x6 x7 x8 x9 (ix4 b hh (S b).agent n) = score W (S b) hh n := by
  pointwise [val_main_v35, val_main_call2_v1, val_main_cst_1]
  rw [mask H, raw_score H]
  unfold score
  split <;> simp [Scalar.select]

end Cert.Proof

end
-- ==== Proof.Answers.lean ====
/- What the reference computes, continued: the softmax over the agents, the aggregated message, the features and the two
   output layers. -/
module

public import proofs.«01_k».proof.Proof.Reference

@[expose] public section

set_option maxRecDepth 16384

noncomputable section

namespace Cert.Proof

open Idealize.ShloMosaic Cert.ReferenceIdeal Cert.ReferenceIdeal.Read

variable {W : Net} {S : Fin 16 → Sample} {x0 : Vec Ideal S16x128x512 .f32} {x1 : Vec Ideal S16x128x128 .i32}
  {x2 : Vec Ideal S16x1 .i32} {x3 : Vec Ideal S512x128 .f32} {x4 : Vec Ideal S128 .f32} {x5 : Vec Ideal S128x256 .f32}
  {x6 : Vec Ideal S256 .f32} {x7 : Vec Ideal S128x256 .f32} {x8 : Vec Ideal S256 .f32} {x9 : Vec Ideal S2x128 .f32}
  {x10 : Vec Ideal S128 .f32}

/-- The argument arrays hold the weights and samples read off them, when every agent word names an agent. -/
theorem given_of (x0 : Vec Ideal S16x128x512 .f32) (x1 : Vec Ideal S16x128x128 .i32)
    (x2 : Vec Ideal S16x1 .i32) (x3 : Vec Ideal S512x128 .f32) (x4 : Vec Ideal S128 .f32) (x5 : Vec Ideal S128x256 .f32)
    (x6 : Vec Ideal S256 .f32) (x7 : Vec Ideal S128x256 .f32) (x8 : Vec Ideal S256 .f32) (x9 : Vec Ideal S2x128 .f32)
    (x10 : Vec Ideal S128 .f32) (hr : InRange x2) :
    Given (netOf x3 x4 x5 x6 x7 x8 x9 x10) (sampleAt x0 x1 x2) x0 x1 x2 x3 x4 x5 x6 x7 x8 x9 x10 where
  obs _ _ _ := rfl
  adj _ _ _ := rfl
  agent b := hr.word b
  We _ _ := rfl
  be _ := rfl
  Wl _ _ := rfl
  bl _ := rfl
  Wr _ _ := rfl
  br _ := rfl
  att _ _ := rfl
  bg _ := rfl

/-- The largest score, which the reference compares with minus infinity once more. -/
theorem largest (H : Given W S x0 x1 x2 x3 x4 x5 x6 x7 x8 x9 x10) (b : Fin 16) (hh : Fin 2) :
    val_main_v38 (F := Ideal) x0 x1 x3 x4 x5 x6 x7 x8 x9 (ix3 b hh (S b).agent) = top W (S b) hh := by
  pointwise [val_main_v38, val_main_v37, val_main_v36, val_main_cst_3, val_main_cst_2]
  simp only [masked_score H]
  exact max_eq_right ((Finset.le_fold_max _).2 (Or.inl le_rfl))

/-- The exponential of a score less the largest one. -/
theorem exponential (H : Given W S x0 x1 x2 x3 x4 x5 x6 x7 x8 x9 x10) (b : Fin 16) (hh : Fin 2) (n : Fin 128) :
    val_main_v42 (F := Ideal) x0 x1 x3 x4 x5 x6 x7 x8 x9 (ix4 b hh (S b).agent n)
      = Ideal.exp (score W (S b) hh n - top W (S b) hh) := by
  pointwise [val_main_v42, val_main_v41, val_main_v40, val_main_v39]
  simp only [masked_score H, largest H]

/-- The attention weight of agent `n`. -/
theorem attention (H : Given W S x0 x1 x2 x3 x4 x5 x6 x7 x8 x9 x10) (b : Fin 16) (hh : Fin 2) (n : Fin 128) :
    val_main_v46 (F := Ideal) x0 x1 x3 x4 x5 x6 x7 x8 x9 (ix4 b hh (S b).agent n) = weight W (S b) hh n := by
  pointwise [val_main_v46, val_main_v45, val_main_v44, val_main_v43, val_main_cst_4]
  simp only [exponential H]
  rfl

/-- The message of each head. -/
theorem head_message (H : Given W S x0 x1 x2 x3 x4 x5 x6 x7 x8 x9 x10) (b : Fin 16) (hh : Fin 2) (d : Fin 128) :
    val_main_v48 (F := Ideal) x0 x1 x3 x4 x5 x6 x7 x8 x9 (ix4 b (S b).agent hh d) = message W (S b) hh d := by
  pointwise [val_main_v48, val_main_v47]
  simp only [source_head H, attention H]
  exact Finset.sum_congr rfl fun n _ => mul_comm _ _

/-- Division by the word of two is multiplication by the word of one half. -/
theorem half (x : EReal) :
    Ideal.div x (Ideal.ofBits .f32 0x40000000#32) = x * Ideal.ofBits .f32 0x3F000000#32 := by
  have h2 : Ideal.ofBits .f32 0x40000000#32 = ((2 : ℝ) : EReal) := by
    simp [Ideal.ofBits, Ideal.ieee, -EReal.coe_mul]; norm_num
  have h1 : Ideal.ofBits .f32 0x3F000000#32 = ((2⁻¹ : ℝ) : EReal) := by
    simp [Ideal.ofBits, Ideal.ieee, -EReal.coe_mul]; norm_num
  rw [h1, h2, Ideal.div, if_neg (by norm_num), EReal.coe_inv]

/-- The aggregated message of the chosen agent. -/
theorem aggregated (H : Given W S x0 x1 x2 x3 x4 x5 x6 x7 x8 x9 x10) (b : Fin 16) (d : Fin 128) :
    val_main_v54 (F := Ideal) x0 x1 x3 x4 x5 x6 x7 x8 x9 x10 (ix3 b (S b).agent d) = aggregate W (S b) d := by
  pointwise [val_main_v54, val_main_v53, val_main_v52, val_main_v51, val_main_v50, val_main_v49, val_main_cst_6, val_main_cst_5]
  simp only [head_message H, H.bg]
  rw [Fin.sum_univ_two, half]
  rfl

/-- The one-hot row of the chosen agent. -/
theorem chosen (H : Given W S x0 x1 x2 x3 x4 x5 x6 x7 x8 x9 x10) (b : Fin 16) (n : Fin 128) :
    val_main_v55 (F := Ideal) x2 (ix3 b 0 n) = ind (n = (S b).agent) := by
  pointwise [val_main_v55, val_main_call3_v4, val_main_call3_v3, val_main_call3_v2, val_main_call3_v1, val_main_call3_v0]
  rw [H.agent, uitofp_eq]
  refine ind_congr ?_
  rw [Fin.ext_iff, eq_comm (a := n.val)]
  exact ofNat_inj (by omega) (by omega)

/-- The chosen agent's encoding, picked by the one-hot row. -/
theorem picked_encoding (H : Given W S x0 x1 x2 x3 x4 x5 x6 x7 x8 x9 x10) (b : Fin 16) (d : Fin 128) :
    val_main_v57 (F := Ideal) x0 x2 x3 x4 (ix2 b d) = enc W (S b) (S b).agent d := by
  pointwise [val_main_v57, val_main_v56]
  simp only [chosen H, encoding H]
  exact sum_ind_eq (S b).agent fun n => enc W (S b) n d

/-- Every agent's aggregated message, of which the one-hot row picks the chosen agent's. -/
theorem picked_message (H : Given W S x0 x1 x2 x3 x4 x5 x6 x7 x8 x9 x10) (b : Fin 16) (d : Fin 128) :
    val_main_v59 (F := Ideal) x0 x1 x2 x3 x4 x5 x6 x7 x8 x9 x10 (ix2 b d) = aggregate W (S b) d := by
  pointwise [val_main_v59, val_main_v58]
  simp only [chosen H]
  rw [sum_ind_eq (S b).agent fun n => val_main_v54 (F := Ideal) x0 x1 x3 x4 x5 x6 x7 x8 x9 x10 (ix3 b n d)]
  exact aggregated H b d

/-- The features of the chosen agent. -/
theorem features (H : Given W S x0 x1 x2 x3 x4 x5 x6 x7 x8 x9 x10) (b : Fin 16) (k : Fin 256) :
    val_main_v60 (F := Ideal) x0 x1 x2 x3 x4 x5 x6 x7 x8 x9 x10 (ix2 b k) = feature W (S b) k := by
  pointwise [val_main_v60]
  simp only [picked_encoding H, picked_message H]
  rfl

/-- The reference's first result. -/
theorem first_answer (H : Given W S x0 x1 x2 x3 x4 x5 x6 x7 x8 x9 x10) (M : Vec Ideal S256x6 .f32) (v : Vec Ideal S6 .f32) :
    val_main_v64 (F := Ideal) x0 x1 x2 x3 x4 x5 x6 x7 x8 x9 x10 M v = head W S M v := by
  funext j
  obtain ⟨b, q, rfl⟩ : ∃ b q, j = ix2 b q := ⟨j 0, j 1, by funext a; fin_cases a <;> rfl⟩
  pointwise [val_main_v64, val_main_v63, val_main_v62, val_main_v61]
  simp only [features H]
  rfl

/-- The reference's second result. -/
theorem second_answer (H : Given W S x0 x1 x2 x3 x4 x5 x6 x7 x8 x9 x10) (M : Vec Ideal S256x1 .f32) (v : Vec Ideal S1 .f32) :
    val_main_v68 (F := Ideal) x0 x1 x2 x3 x4 x5 x6 x7 x8 x9 x10 M v = head W S M v := by
  funext j
  obtain ⟨b, q, rfl⟩ : ∃ b q, j = ix2 b q := ⟨j 0, j 1, by funext a; fin_cases a <;> rfl⟩
  obtain rfl : q = 0 := Subsingleton.elim _ _
  pointwise [val_main_v68, val_main_v67, val_main_v66, val_main_v65]
  simp only [features H]
  rfl

end Cert.Proof

end
-- ==== Proof.Range.lean ====
/- The precondition, read: every agent word names one of the 128 agents. -/
module

public import proofs.«01_k».proof.Proof.Model
public import proofs.«01_k».proof.Proof.Gen.Pre_agents_in_range
public import Idealize.ShloMosaic.Lib.ReduceAll
public import Idealize.ShloMosaic.Lib.Affine

@[expose] public section

set_option maxRecDepth 16384

noncomputable section

namespace Cert.Proof

open Idealize.ShloMosaic Cert.Pre_agents_in_range

/-- The printed precondition says that every agent word is below 128. -/
theorem agents_below {x0 : FVec Ideal S16x128x512 .f32} {x1 : IVec S16x128x128 32} {x2 : IVec S16x1 32}
    {x3 : FVec Ideal S512x128 .f32} {x4 : FVec Ideal S128 .f32} {x5 : FVec Ideal S128x256 .f32} {x6 : FVec Ideal S256 .f32}
    {x7 : FVec Ideal S128x256 .f32} {x8 : FVec Ideal S256 .f32} {x9 : FVec Ideal S2x128 .f32} {x10 : FVec Ideal S128 .f32}
    {x11 : FVec Ideal S256x6 .f32} {x12 : FVec Ideal S6 .f32} {x13 : FVec Ideal S256x1 .f32} {x14 : FVec Ideal S1 .f32}
    (h : fn (F := Ideal) x0 x1 x2 x3 x4 x5 x6 x7 x8 x9 x10 x11 x12 x13 x14 = fun _ => 1#1) : InRange x2 := by
  intro b
  have e := congrFun h ix0
  dsimp only [fn] at e
  have e' := Host.reduce_andi_all _ _ _ _ _ e (ix2 b 0)
  obtain ⟨lo, hi⟩ := IntOp.andi_eq_one.1 e'
  have lo' : (0#32 : BitVec 32).toInt ≤ (x2 (ix2 b 0)).toInt := IntOp.cmpi_sge.1 lo
  have hi' : (x2 (ix2 b 0)).toInt < (128#32 : BitVec 32).toInt := IntOp.cmpi_slt.1 hi
  have z : (0#32 : BitVec 32).toInt = 0 := by decide
  have w : (128#32 : BitVec 32).toInt = 128 := by decide
  have l := (x2 (ix2 b 0)).isLt
  rw [z] at lo'
  rw [w] at hi'
  rw [BitVec.toInt_eq_toNat_cond] at lo' hi'
  split at lo' <;> omega

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_agents_in_range
public import proofs.«01_k».proof.Proof.Tail
public import proofs.«01_k».proof.Proof.Answers
public import proofs.«01_k».proof.Proof.Range
public import Idealize.ShloMosaic.Adequacy
public import Idealize.ShloMosaic.Init

@[expose] public section

noncomputable section

namespace Cert.Proof

open Idealize.ShloMosaic Idealize.SL.Sem

/-- The reference runs, leaves its arguments unchanged, and ends with every counter at zero. -/
theorem reference_frame : Cert.quiescent_ReferenceIdeal := by
  intro m g _
  exact θ_run_mono (Cert.ReferenceIdeal.Value.run m g) fun r h => ⟨fun c => (h c).2.2, sem_eq_zero_of_no_sems (by decide) r.2⟩

/-- The two programs end with the same results. -/
theorem equal_results : Cert.algebraic_KernelIdeal_ReferenceIdeal_pre_agents_in_range := by
  intro m g m' g' hpre hagree
  have hr : ∀ c : Dev Cert.KernelIdeal.nD, InRange (m ((c.tc : Thread Cert.KernelIdeal.nD Cert.KernelIdeal.τ).loc Cert.KernelIdeal.main_arg2)) :=
    fun c => agents_below (hpre c)
  have H : ∀ c : Dev Cert.KernelIdeal.nD, Given (net m c) (sample m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) :=
    fun c => given_of _ _ _ _ _ _ _ _ _ _ _ (hr c)
  refine ⟨_, _, θ_run_mono (θ_run_and (kernel_run m g hr) (Cert.KernelIdeal.Gen.unchanged m g))
      fun r h c => ⟨(h.1 c).1, (h.1 c).2, h.2 c⟩,
    θ_run_mono (Cert.ReferenceIdeal.Value.run m' g') fun r h c => ?_⟩
  obtain ⟨a0, a1, a2, a3, a4, a5, a6, a7, a8, a9, a10, a11, a12, a13, a14⟩ := hagree c
  refine ⟨(h c).1.trans ((Cert.ReferenceIdeal.Read.val_main_v64_eq m' c).trans ?_),
    (h c).2.1.trans ((Cert.ReferenceIdeal.Read.val_main_v68_eq m' c).trans ?_), (h c).2.2⟩
  · rw [a0, a1, a2, a3, a4, a5, a6, a7, a8, a9, a10, a11, a12]
    exact first_answer (H c) _ _
  · rw [a0, a1, a2, a3, a4, a5, a6, a7, a8, a9, a10, a13, a14]
    exact second_answer (H c) _ _

/-- Everything claimed. -/
theorem claim : Cert.Claim :=
  ⟨Cert.Kernel.Gen.facts, Cert.KernelIdeal.Gen.facts, Cert.ReferenceIdeal.Gen.facts, Cert.Pre_agents_in_range.Gen.facts,
    fun m g _ => Cert.Kernel.Gen.frame m g, fun m g _ => Cert.KernelIdeal.Gen.frame m g,
    fun m g _ => Cert.KernelIdeal.Gen.frame m g, reference_frame, fun m g _ => reference_frame m g trivial, trivial,
    equal_results⟩

end Cert.Proof

end
